-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S1024x544 : Shape := ⟨2, ![1024, 544]⟩
abbrev S544x256 : Shape := ⟨2, ![544, 256]⟩
abbrev S256 : Shape := ⟨1, ![256]⟩
abbrev S256x128 : Shape := ⟨2, ![256, 128]⟩
abbrev S128 : Shape := ⟨1, ![128]⟩
abbrev S50000x128 : Shape := ⟨2, ![50000, 128]⟩
abbrev S50000 : Shape := ⟨1, ![50000]⟩
abbrev S128x1 : Shape := ⟨2, ![128, 1]⟩
abbrev S1 : Shape := ⟨1, ![1]⟩
abbrev S1024x256 : Shape := ⟨2, ![1024, 256]⟩
abbrev S1x256 : Shape := ⟨2, ![1, 256]⟩
abbrev S_ : Shape := ⟨0, ![]⟩
abbrev S1024x128 : Shape := ⟨2, ![1024, 128]⟩
abbrev S1x128 : Shape := ⟨2, ![1, 128]⟩
abbrev S1024 : Shape := ⟨1, ![1024]⟩
abbrev S1024x1 : Shape := ⟨2, ![1024, 1]⟩
abbrev S1x50000 : Shape := ⟨2, ![1, 50000]⟩
abbrev S1024x50000 : Shape := ⟨2, ![1024, 50000]⟩
abbrev S128x50000 : Shape := ⟨2, ![128, 50000]⟩
abbrev S1024x50 : Shape := ⟨2, ![1024, 50]⟩
abbrev S1024x176 : Shape := ⟨2, ![1024, 176]⟩
abbrev S1024x50176 : Shape := ⟨2, ![1024, 50176]⟩
abbrev S1024x392x128 : Shape := ⟨3, ![1024, 392, 128]⟩
abbrev S1024x392x5 : Shape := ⟨3, ![1024, 392, 5]⟩
abbrev S1024x1x1 : Shape := ⟨3, ![1024, 1, 1]⟩
abbrev S1024x392x1 : Shape := ⟨3, ![1024, 392, 1]⟩
abbrev S1024x392x4 : Shape := ⟨3, ![1024, 392, 4]⟩

class Facts : Prop where
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  bcast_S_S1024x256 : S_.BroadcastsInDim S1024x256 (![] : Fin 0 → Fin S1024x256.rank)
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  reducesTo_S1024x128_S1024_d1 : S1024x128.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x128_0_1 : S1024x1.BroadcastsInDim S1024x128 (![0, 1] : Fin 2 → Fin S1024x128.rank)
  reducesTo_S50000x128_S50000_d1 : S50000x128.ReducesTo [1] S50000
  bcast_S50000_S1x50000_1 : S50000.BroadcastsInDim S1x50000 (![1] : Fin 1 → Fin S1x50000.rank)
  bcast_S1024x1_S1024x50000_0_1 : S1024x1.BroadcastsInDim S1024x50000 (![0, 1] : Fin 2 → Fin S1024x50000.rank)
  bcast_S1x50000_S1024x50000_0_1 : S1x50000.BroadcastsInDim S1024x50000 (![0, 1] : Fin 2 → Fin S1024x50000.rank)
  transposes_S50000x128_S128x50000_1_0 : S50000x128.Transposes [1, 0] S128x50000
  bcast_S_S1024x50000 : S_.BroadcastsInDim S1024x50000 (![] : Fin 0 → Fin S1024x50000.rank)
  sliceFits_S1024x50000_S1024x50 : S1024x50000.Slices (fun _ => 0) S1024x50
  slices_S1024x50_S1024x1_0_49 : S1024x50.Slices ![0, 49] S1024x1
  bcast_S_S1024x128 : S_.BroadcastsInDim S1024x128 (![] : Fin 0 → Fin S1024x128.rank)
  bcast_S_S1024x176 : S_.BroadcastsInDim S1024x176 (![] : Fin 0 → Fin S1024x176.rank)
  concatenates_S1024x50000_S1024x176_S1024x50176_d1 : Shape.Concatenates [S1024x50000, S1024x176] S1024x50176 1
  shapeCasts_S1024x50176_S1024x392x128 : S1024x50176.ShapeCasts S1024x392x128
  sliceFits_S1024x392x128_S1024x392x5 : S1024x392x128.Slices (fun _ => 0) S1024x392x5
  bcast_S1024x1_S1024x1x1_0_1 : S1024x1.BroadcastsInDim S1024x1x1 (![0, 1] : Fin 2 → Fin S1024x1x1.rank)
  bcast_S1024x1x1_S1024x392x5_0_1_2 : S1024x1x1.BroadcastsInDim S1024x392x5 (![0, 1, 2] : Fin 3 → Fin S1024x392x5.rank)
  slices_S1024x392x5_S1024x392x1_0_0_4 : S1024x392x5.Slices ![0, 0, 4] S1024x392x1
  bcast_S1024x1x1_S1024x392x1_0_1_2 : S1024x1x1.BroadcastsInDim S1024x392x1 (![0, 1, 2] : Fin 3 → Fin S1024x392x1.rank)
  slices_S1024x392x5_S1024x392x4_0_0_0 : S1024x392x5.Slices ![0, 0, 0] S1024x392x4
  slices_S1024x392x5_S1024x392x4_0_0_1 : S1024x392x5.Slices ![0, 0, 1] S1024x392x4
  bcast_S1024x392x1_S1024x392x4_0_1_2 : S1024x392x1.BroadcastsInDim S1024x392x4 (![0, 1, 2] : Fin 3 → Fin S1024x392x4.rank)
  dot_S1024x544_S544x256_S1024x256_1_0_0_1_n_n_wf : DotDims.WF S1024x544 S544x256 S1024x256 [1] [0] [0] [1] [] []
  dot_S1024x256_S256x128_S1024x128_1_0_0_1_n_n_wf : DotDims.WF S1024x256 S256x128 S1024x128 [1] [0] [0] [1] [] []
  dot_S1024x128_S128x50000_S1024x50000_1_0_0_1_n_n_wf : DotDims.WF S1024x128 S128x50000 S1024x50000 [1] [0] [0] [1] [] []

variable [Facts]

def dot_S1024x544_S544x256_S1024x256_1_0_0_1_n_n : DotDims S1024x544 S544x256 S1024x256 where
  lhsContracting := [1]
  rhsContracting := [0]
  lhsNonContracting := [0]
  rhsNonContracting := [1]
  lhsBatch := []
  rhsBatch := []
  wf := dot_S1024x544_S544x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x50000_S1024x50000_1_0_0_1_n_n : DotDims S1024x128 S128x50000 S1024x50000 where
  lhsContracting := [1]
  rhsContracting := [0]
  lhsNonContracting := [0]
  rhsNonContracting := [1]
  lhsBatch := []
  rhsBatch := []
  wf := dot_S1024x128_S128x50000_S1024x50000_1_0_0_1_n_n_wf
def fn_where {F : FTy → Type} [FloatOps F] (arg0 : IVec S_ 1) (arg1 : FVec F S1024x1 .f32) (arg2 : FVec F S_ .f32) : FVec F S1024x1 .f32 :=
  let v0 : FVec F S_ .f32 := id arg2
  let v1 : FVec F S1024x1 .f32 := broadcastInDim S1024x1 ![] bcast_S_S1024x1 v0
  let v2 : FVec F S1024x1 .f32 := (fun p a b => select (broadcastInDim S1024x1 ![] bcast_S_S1024x1 p) a b) arg0 arg1 v1
  v2

def fn_var {F : FTy → Type} [FloatOps F] (arg0 : FVec F S1024x128 .f32) (arg1 : IVec S_ 32) : FVec F S1024x1 .f32 :=
  let cst : FVec F S_ .f32 := constant S_ .f32 0x00000000#32
  let v0 : FVec F S1024 .f32 := (fun x v => Host.reduceAdd x v reducesTo_S1024x128_S1024_d1 h_S_) arg0 cst
  let v1 : FVec F S1024x1 .f32 := broadcastInDim S1024x1 ![0] bcast_S1024_S1024x1_0 v0
  let cst_0 : FVec F S_ .f32 := constant S_ .f32 0x43000000#32
  let v2 : FVec F S1024x1 .f32 := broadcastInDim S1024x1 ![] bcast_S_S1024x1 cst_0
  let v3 : FVec F S1024x1 .f32 := Host.divf v1 v2
  let v4 : FVec F S1024x128 .f32 := broadcastInDim S1024x128 ![0, 1] bcast_S1024x1_S1024x128_0_1 v3
  let v5 : FVec F S1024x128 .f32 := subf arg0 v4
  let v6 : FVec F S1024x128 .f32 := mulf v5 v5
  let v7 : FVec F S_ .f32 := sitofp .f32 arg1
  let cst_1 : FVec F S_ .f32 := constant S_ .f32 0x43000000#32
  let v8 : FVec F S_ .f32 := subf cst_1 v7
  let cst_2 : FVec F S_ .f32 := constant S_ .f32 0x00000000#32
  let v9 : FVec F S1024 .f32 := (fun x v => Host.reduceAdd x v reducesTo_S1024x128_S1024_d1 h_S_) v6 cst_2
  let v10 : FVec F S1024x1 .f32 := broadcastInDim S1024x1 ![0] bcast_S1024_S1024x1_0 v9
  let v11 : FVec F S1024x1 .f32 := broadcastInDim S1024x1 ![] bcast_S_S1024x1 v8
  let v12 : FVec F S1024x1 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  let v14 : FVec F S1024x1 .f32 := fn_where (F := F) v13 v12 cst_4
  v14

def fn_part3 {F : FTy → Type} [FloatOps F] (main_v41 : FVec F S1024x50000 .f32) (main_v44 : FVec F S1024x1 .f32) (main_v53 : FVec F S1024x1 .f32) (main_v56 : IVec S1024x1 1) : IVec S1024x392x4 1 :=
  let main_v57 : IVec S1024x1 1 := cmpf .olt main_v44 main_v53
  let main_v58 : IVec S1024x1 1 := andi main_v56 main_v57
  let main_cst_11 : FVec F S_ .f32 := constant S_ .f32 0x7F800000#32
  let main_v59 : FVec F S1024x176 .f32 := broadcastInDim S1024x176 ![] bcast_S_S1024x176 main_cst_11
  let main_v60 : FVec F S1024x50176 .f32 := (fun a b => concatenate S1024x50176 1 [⟨S1024x50000, a⟩, ⟨S1024x176, b⟩] concatenates_S1024x50000_S1024x176_S1024x50176_d1) main_v41 main_v59
  let main_v61 : FVec F S1024x392x128 .f32 := shapeCast S1024x392x128 main_v60 shapeCasts_S1024x50176_S1024x392x128
  let main_v62 : FVec F S1024x392x128 .f32 := Host.negf main_v61
  let main_values_12 : FVec F S1024x392x5 .f32 := (fun x => (Host.topK S1024x392x5 2 (FloatOps.cmpfTotal .gt) x sliceFits_S1024x392x128_S1024x392x5).1) main_v62
  let main_indices_13 : IVec S1024x392x5 32 := (fun x => (Host.topK S1024x392x5 2 (FloatOps.cmpfTotal .gt) x sliceFits_S1024x392x128_S1024x392x5).2) main_v62
  let main_v63 : FVec F S1024x392x5 .f32 := Host.negf main_values_12
  let main_v64 : FVec F S1024x1x1 .f32 := broadcastInDim S1024x1x1 ![0, 1] bcast_S1024x1_S1024x1x1_0_1 main_v44
  let main_v65 : FVec F S1024x392x5 .f32 := broadcastInDim S1024x392x5 ![0, 1, 2] bcast_S1024x1x1_S1024x392x5_0_1_2 main_v64
  let main_v66 : IVec S1024x392x5 1 := cmpf .ogt main_v63 main_v65
  let main_v67 : IVec S1024x1x1 1 := broadcastInDim S1024x1x1 ![0, 1] bcast_S1024x1_S1024x1x1_0_1 main_v58
  let main_v68 : IVec S1024x392x1 1 := (extractStridedSlice S1024x392x1 ![0, 0, 4] · slices_S1024x392x5_S1024x392x1_0_0_4) main_v66
  let main_v69 : IVec S1024x392x1 1 := broadcastInDim S1024x392x1 ![0, 1, 2] bcast_S1024x1x1_S1024x392x1_0_1_2 main_v67
  let main_v70 : IVec S1024x392x1 1 := andi main_v69 main_v68
  let main_v71 : FVec F S1024x392x4 .f32 := (extractStridedSlice S1024x392x4 ![0, 0, 0] · slices_S1024x392x5_S1024x392x4_0_0_0) main_v63
  let main_v72 : FVec F S1024x392x4 .f32 := (extractStridedSlice S1024x392x4 ![0, 0, 1] · slices_S1024x392x5_S1024x392x4_0_0_1) main_v63
  let main_v73 : IVec S1024x392x4 1 := cmpf .olt main_v71 main_v72
  let main_v74 : IVec S1024x392x4 1 := (extractStridedSlice S1024x392x4 ![0, 0, 0] · slices_S1024x392x5_S1024x392x4_0_0_0) main_v66
  let main_v75 : IVec S1024x392x4 1 := ori main_v73 main_v74
  let main_v76 : IVec S1024x392x4 1 := broadcastInDim S1024x392x4 ![0, 1, 2] bcast_S1024x392x1_S1024x392x4_0_1_2 main_v70
  let main_v77 : IVec S1024x392x4 1 := andi main_v76 main_v75
  main_v77

def fn_part2 {F : FTy → Type} [FloatOps F] (main_v27 : FVec F S1024x128 .f32) (main_v30 : FVec F S1024x1 .f32) (main_v36 : FVec F S1024x50000 .f32) (main_v38 : FVec F S1024x50000 .f32) (main_v39 : FVec F S1024x50000 .f32) : IVec S1024x392x4 1 :=
  let main_v40 : FVec F S1024x50000 .f32 := mulf main_v39 main_v38
  let main_v41 : FVec F S1024x50000 .f32 := subf main_v36 main_v40
  let main_v42 : FVec F S1024x50000 .f32 := Host.negf main_v41
  let main_values : FVec F S1024x50 .f32 := (fun x => (Host.topK S1024x50 1 (FloatOps.cmpfTotal .gt) x sliceFits_S1024x50000_S1024x50).1) main_v42
  let main_indices : IVec S1024x50 32 := (fun x => (Host.topK S1024x50 1 (FloatOps.cmpfTotal .gt) x sliceFits_S1024x50000_S1024x50).2) main_v42
  let main_v43 : FVec F S1024x1 .f32 := (extractStridedSlice S1024x1 ![0, 49] · slices_S1024x50_S1024x1_0_49) main_values
  let main_v44 : FVec F S1024x1 .f32 := Host.negf main_v43
  let main_cst_6 : FVec F S_ .f32 := constant S_ .f32 0x503EBC20#32
  let main_v45 : FVec F S1024x1 .f32 := broadcastInDim S1024x1 ![] bcast_S_S1024x1 main_cst_6
  let main_v46 : FVec F S1024x1 .f32 := addf main_v30 main_v45
  let main_cst_7 : FVec F S_ .f32 := constant S_ .f32 0x461C4000#32
  let main_v47 : FVec F S1024x128 .f32 := broadcastInDim S1024x128 ![] bcast_S_S1024x128 main_cst_7
  let main_v48 : FVec F S1024x128 .f32 := mulf main_v27 main_v47
  let main_cst_8 : FVec F S_ .f32 := constant S_ .f32 0x00000000#32
  let main_v49 : FVec F S1024 .f32 := (fun x v => Host.reduceAdd x v reducesTo_S1024x128_S1024_d1 h_S_) main_v48 main_cst_8
  let main_v50 : FVec F S1024x1 .f32 := broadcastInDim S1024x1 ![0] bcast_S1024_S1024x1_0 main_v49
  let main_cst_9 : FVec F S_ .f32 := constant S_ .f32 0x40000000#32
  let main_v51 : FVec F S1024x1 .f32 := broadcastInDim S1024x1 ![] bcast_S_S1024x1 main_cst_9
  let main_v52 : FVec F S1024x1 .f32 := mulf main_v51 main_v50
  let main_v53 : FVec F S1024x1 .f32 := subf main_v46 main_v52
  let main_v54 : FVec F S1024x1 .f32 := Host.absf main_v44
  let main_cst_10 : FVec F S_ .f32 := constant S_ .f32 0x7F61B1E6#32
  let main_v55 : FVec F S1024x1 .f32 := broadcastInDim S1024x1 ![] bcast_S_S1024x1 main_cst_10
  let main_v56 : IVec S1024x1 1 := cmpf .olt main_v54 main_v55
  fn_part3 (F := F) main_v41 main_v44 main_v53 main_v56

def fn_part1 {F : FTy → Type} [FloatOps F] (main_arg5 : FVec F S128 .f32) (main_arg6 : FVec F S128 .f32) (main_arg7 : FVec F S50000x128 .f32) (main_v16 : FVec F S1024x128 .f32) (main_v18 : FVec F S1024x1 .f32) : IVec S1024x392x4 1 :=
  let main_v19 : FVec F S1024x1 .f32 := Host.sqrt main_v18
  let main_v20 : FVec F S1024x128 .f32 := broadcastInDim S1024x128 ![0, 1] bcast_S1024x1_S1024x128_0_1 main_v19
  let main_v21 : FVec F S1024x128 .f32 := Host.divf main_v16 main_v20
  let main_v22 : FVec F S1x128 .f32 := broadcastInDim S1x128 ![1] bcast_S128_S1x128_1 main_arg5
  let main_v23 : FVec F S1024x128 .f32 := broadcastInDim S1024x128 ![0, 1] bcast_S1x128_S1024x128_0_1 main_v22
  let main_v24 : FVec F S1024x128 .f32 := mulf main_v21 main_v23
  let main_v25 : FVec F S1x128 .f32 := broadcastInDim S1x128 ![1] bcast_S128_S1x128_1 main_arg6
  let main_v26 : FVec F S1024x128 .f32 := broadcastInDim S1024x128 ![0, 1] bcast_S1x128_S1024x128_0_1 main_v25
  let main_v27 : FVec F S1024x128 .f32 := addf main_v24 main_v26
  let main_v28 : FVec F S1024x128 .f32 := mulf main_v27 main_v27
  let main_cst_3 : FVec F S_ .f32 := constant S_ .f32 0x00000000#32
  let main_v29 : FVec F S1024 .f32 := (fun x v => Host.reduceAdd x v reducesTo_S1024x128_S1024_d1 h_S_) main_v28 main_cst_3
  let main_v30 : FVec F S1024x1 .f32 := broadcastInDim S1024x1 ![0] bcast_S1024_S1024x1_0 main_v29
  let main_v31 : FVec F S50000x128 .f32 := mulf main_arg7 main_arg7
  let main_cst_4 : FVec F S_ .f32 := constant S_ .f32 0x00000000#32
  let main_v32 : FVec F S50000 .f32 := (fun x v => Host.reduceAdd x v reducesTo_S50000x128_S50000_d1 h_S_) main_v31 main_cst_4
  let main_v33 : FVec F S1x50000 .f32 := broadcastInDim S1x50000 ![1] bcast_S50000_S1x50000_1 main_v32
  let main_v34 : FVec F S1024x50000 .f32 := broadcastInDim S1024x50000 ![0, 1] bcast_S1024x1_S1024x50000_0_1 main_v30
  let main_v35 : FVec F S1024x50000 .f32 := broadcastInDim S1024x50000 ![0, 1] bcast_S1x50000_S1024x50000_0_1 main_v33
  let main_v36 : FVec F S1024x50000 .f32 := addf main_v34 main_v35
  let main_v37 : FVec F S128x50000 .f32 := (transpose S128x50000 [1, 0] · transposes_S50000x128_S128x50000_1_0) main_arg7
  let main_v38 : FVec F S1024x50000 .f32 := (fun l r => Host.dotGeneral dot_S1024x128_S128x50000_S1024x50000_1_0_0_1_n_n none l r) main_v27 main_v37
  let main_cst_5 : FVec F S_ .f32 := constant S_ .f32 0x40000000#32
  let main_v39 : FVec F S1024x50000 .f32 := broadcastInDim S1024x50000 ![] bcast_S_S1024x50000 main_cst_5
  fn_part2 (F := F) main_v27 main_v30 main_v36 main_v38 main_v39

def fn {F : FTy → Type} [FloatOps F] (main_arg0 : FVec F S1024x544 .f32) (main_arg1 : FVec F S544x256 .f32) (main_arg2 : FVec F S256 .f32) (main_arg3 : FVec F S256x128 .f32) (main_arg4 : FVec F S128 .f32) (main_arg5 : FVec F S128 .f32) (main_arg6 : FVec F S128 .f32) (main_arg7 : FVec F S50000x128 .f32) (main_arg8 : FVec F S50000 .f32) (main_arg9 : FVec F S544x256 .f32) (main_arg10 : FVec F S256 .f32) (main_arg11 : FVec F S256x128 .f32) (main_arg12 : FVec F S128 .f32) (main_arg13 : FVec F S128x1 .f32) (main_arg14 : FVec F S1 .f32) : IVec S1024x392x4 1 :=
  let main_v0 : FVec F S1024x256 .f32 := (fun l r => Host.dotGeneral dot_S1024x544_S544x256_S1024x256_1_0_0_1_n_n none l r) main_arg0 main_arg1
  let main_v1 : FVec F S1x256 .f32 := broadcastInDim S1x256 ![1] bcast_S256_S1x256_1 main_arg2
  let main_v2 : FVec F S1024x256 .f32 := broadcastInDim S1024x256 ![0, 1] bcast_S1x256_S1024x256_0_1 main_v1
  let main_v3 : FVec F S1024x256 .f32 := addf main_v0 main_v2
  let main_cst : FVec F S_ .f32 := constant S_ .f32 0x00000000#32
  let main_v4 : FVec F S1024x256 .f32 := broadcastInDim S1024x256 ![] bcast_S_S1024x256 main_cst
  let main_v5 : FVec F S1024x256 .f32 := maximumf main_v3 main_v4
  let main_v6 : FVec F S1024x128 .f32 := (fun l r => Host.dotGeneral dot_S1024x256_S256x128_S1024x128_1_0_0_1_n_n none l r) main_v5 main_arg3
  let main_v7 : FVec F S1x128 .f32 := broadcastInDim S1x128 ![1] bcast_S128_S1x128_1 main_arg4
  let main_v8 : FVec F S1024x128 .f32 := broadcastInDim S1024x128 ![0, 1] bcast_S1x128_S1024x128_0_1 main_v7
  let main_v9 : FVec F S1024x128 .f32 := addf main_v6 main_v8
  let main_cst_0 : FVec F S_ .f32 := constant S_ .f32 0x00000000#32
  let main_v10 : FVec F S1024 .f32 := (fun x v => Host.reduceAdd x v reducesTo_S1024x128_S1024_d1 h_S_) main_v9 main_cst_0
  let main_v11 : FVec F S1024x1 .f32 := broadcastInDim S1024x1 ![0] bcast_S1024_S1024x1_0 main_v10
  let main_cst_1 : FVec F S_ .f32 := constant S_ .f32 0x43000000#32
  let main_v12 : FVec F S1024x1 .f32 := broadcastInDim S1024x1 ![] bcast_S_S1024x1 main_cst_1
  let main_v13 : FVec F S1024x1 .f32 := Host.divf main_v11 main_v12
  let main_c : IVec S_ 32 := constantI S_ 32 0#32
  let main_v14 : FVec F S1024x1 .f32 := fn_var (F := F) main_v9 main_c
  let main_v15 : FVec F S1024x128 .f32 := broadcastInDim S1024x128 ![0, 1] bcast_S1024x1_S1024x128_0_1 main_v13
  let main_v16 : FVec F S1024x128 .f32 := subf main_v9 main_v15
  let main_cst_2 : FVec F S_ .f32 := constant S_ .f32 0x3727C5AC#32
  let main_v17 : FVec F S1024x1 .f32 := broadcastInDim S1024x1 ![] bcast_S_S1024x1 main_cst_2
  let main_v18 : FVec F S1024x1 .f32 := addf main_v14 main_v17
  fn_part1 (F := F) main_arg5 main_arg6 main_arg7 main_v16 main_v18
-- ==== Kernel.lean ====
abbrev S1024x544 : Shape := ⟨2, ![1024, 544]⟩
abbrev S544x256 : Shape := ⟨2, ![544, 256]⟩
abbrev S256 : Shape := ⟨1, ![256]⟩
abbrev S256x128 : Shape := ⟨2, ![256, 128]⟩
abbrev S128 : Shape := ⟨1, ![128]⟩
abbrev S50000x128 : Shape := ⟨2, ![50000, 128]⟩
abbrev S50000 : Shape := ⟨1, ![50000]⟩
abbrev S128x1 : Shape := ⟨2, ![128, 1]⟩
abbrev S1 : Shape := ⟨1, ![1]⟩
abbrev S1x256 : Shape := ⟨2, ![1, 256]⟩
abbrev S1x128 : Shape := ⟨2, ![1, 128]⟩
abbrev S1x1 : Shape := ⟨2, ![1, 1]⟩
abbrev S1024x128 : Shape := ⟨2, ![1024, 128]⟩
abbrev S1024x1 : Shape := ⟨2, ![1024, 1]⟩
abbrev S256x544 : Shape := ⟨2, ![256, 544]⟩
abbrev S256x1 : Shape := ⟨2, ![256, 1]⟩
abbrev S256x256 : Shape := ⟨2, ![256, 256]⟩
abbrev S_ : Shape := ⟨0, ![]⟩
abbrev S176x128 : Shape := ⟨2, ![176, 128]⟩
abbrev S50176x128 : Shape := ⟨2, ![50176, 128]⟩
abbrev S1x50176 : Shape := ⟨2, ![1, 50176]⟩
abbrev S2 : Shape := ⟨1, ![2]⟩
abbrev S1024x1792 : Shape := ⟨2, ![1024, 1792]⟩
abbrev S128x128 : Shape := ⟨2, ![128, 128]⟩
abbrev S7168x128 : Shape := ⟨2, ![7168, 128]⟩
abbrev S1x7168 : Shape := ⟨2, ![1, 7168]⟩
abbrev S128x256 : Shape := ⟨2, ![128, 256]⟩
abbrev S128x7168 : Shape := ⟨2, ![128, 7168]⟩
abbrev S128x56x128 : Shape := ⟨3, ![128, 56, 128]⟩
abbrev S1x56x128 : Shape := ⟨3, ![1, 56, 128]⟩
abbrev S128x56 : Shape := ⟨2, ![128, 56]⟩
abbrev S128x56x1 : Shape := ⟨3, ![128, 56, 1]⟩
abbrev S128x56x4 : Shape := ⟨3, ![128, 56, 4]⟩
abbrev S128x224 : Shape := ⟨2, ![128, 224]⟩
abbrev S128x32 : Shape := ⟨2, ![128, 32]⟩
abbrev S16x1792 : Shape := ⟨2, ![16, 1792]⟩
abbrev S16x1 : Shape := ⟨2, ![16, 1]⟩
abbrev S16 : Shape := ⟨1, ![16]⟩
abbrev S1024 : Shape := ⟨1, ![1024]⟩

abbrev nBuf : Space → Nat
  | .hbm => 42
  | .vmem => 37
  | .smem => 0
  | _ => 0

abbrev bufTy : (tb : Table) → Fin (tcTables nBuf tb) → BufTy
  | .hbm, ⟨0, _⟩ => ⟨S1024x544, .f32⟩
  | .hbm, ⟨1, _⟩ => ⟨S544x256, .f32⟩
  | .hbm, ⟨2, _⟩ => ⟨S256, .f32⟩
  | .hbm, ⟨3, _⟩ => ⟨S256x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S50000x128, .f32⟩
  | .hbm, ⟨8, _⟩ => ⟨S50000, .f32⟩
  | .hbm, ⟨9, _⟩ => ⟨S544x256, .f32⟩
  | .hbm, ⟨10, _⟩ => ⟨S256, .f32⟩
  | .hbm, ⟨11, _⟩ => ⟨S256x128, .f32⟩
  | .hbm, ⟨12, _⟩ => ⟨S128, .f32⟩
  | .hbm, ⟨13, _⟩ => ⟨S128x1, .f32⟩
  | .hbm, ⟨14, _⟩ => ⟨S1, .f32⟩
  | .hbm, ⟨15, _⟩ => ⟨S1x256, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S1x256, .f32⟩
  | .hbm, ⟨20, _⟩ => ⟨S1x128, .f32⟩
  | .hbm, ⟨21, _⟩ => ⟨S1x128, .f32⟩
  | .hbm, ⟨22, _⟩ => ⟨S1x1, .f32⟩
  | .hbm, ⟨23, _⟩ => ⟨S1024x128, .f32⟩
  | .hbm, ⟨24, _⟩ => ⟨S1024x1, .f32⟩
  | .hbm, ⟨25, _⟩ => ⟨S_, .f32⟩
  | .hbm, ⟨26, _⟩ => ⟨S176x128, .f32⟩
  | .hbm, ⟨27, _⟩ => ⟨S50176x128, .f32⟩
  | .hbm, ⟨28, _⟩ => ⟨S_, .f32⟩
  | .hbm, ⟨29, _⟩ => ⟨S1x50176, .f32⟩
  | .hbm, ⟨30, _⟩ => ⟨S_, .i32⟩
  | .hbm, ⟨31, _⟩ => ⟨S1, .i32⟩
  | .hbm, ⟨32, _⟩ => ⟨S_, .i32⟩
  | .hbm, ⟨33, _⟩ => ⟨S1, .i32⟩
  | .hbm, ⟨34, _⟩ => ⟨S2, .i32⟩
  | .hbm, ⟨35, _⟩ => ⟨S1x50176, .f32⟩
  | .hbm, ⟨36, _⟩ => ⟨S_, .f32⟩
  | .hbm, ⟨37, _⟩ => ⟨S1x128, .f32⟩
  | .hbm, ⟨38, _⟩ => ⟨S1024x1792, .f32⟩
  | .hbm, ⟨39, _⟩ => ⟨S1024x1792, .f32⟩
  | .hbm, ⟨40, _⟩ => ⟨S1024x1, .f32⟩
  | .hbm, ⟨41, _⟩ => ⟨S1024, .f32⟩
  | .local _ .vmem, ⟨0, _⟩ => ⟨S256x544, .f32⟩
  | .local _ .vmem, ⟨1, _⟩ => ⟨S256x544, .f32⟩
  | .local _ .vmem, ⟨2, _⟩ => ⟨S544x256, .f32⟩
  | .local _ .vmem, ⟨3, _⟩ => ⟨S1x256, .f32⟩
  | .local _ .vmem, ⟨4, _⟩ => ⟨S256x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S544x256, .f32⟩
  | .local _ .vmem, ⟨9, _⟩ => ⟨S1x256, .f32⟩
  | .local _ .vmem, ⟨10, _⟩ => ⟨S256x128, .f32⟩
  | .local _ .vmem, ⟨11, _⟩ => ⟨S1x128, .f32⟩
  | .local _ .vmem, ⟨12, _⟩ => ⟨S1x128, .f32⟩
  | .local _ .vmem, ⟨13, _⟩ => ⟨S1x1, .f32⟩
  | .local _ .vmem, ⟨14, _⟩ => ⟨S256x128, .f32⟩
  | .local _ .vmem, ⟨15, _⟩ => ⟨S256x128, .f32⟩
  | .local _ .vmem, ⟨16, _⟩ => ⟨S256x1, .f32⟩
  | .local _ .vmem, ⟨17, _⟩ => ⟨S256x1, .f32⟩
  | .local _ .vmem, ⟨18, _⟩ => ⟨S128x128, .f32⟩
  | .local _ .vmem, ⟨19, _⟩ => ⟨S128x128, .f32⟩
  | .local _ .vmem, ⟨20, _⟩ => ⟨S7168x128, .f32⟩
  | .local _ .vmem, ⟨21, _⟩ => ⟨S7168x128, .f32⟩
  | .local _ .vmem, ⟨22, _⟩ => ⟨S1x7168, .f32⟩
  | .local _ .vmem, ⟨23, _⟩ => ⟨S1x7168, .f32⟩
  | .local _ .vmem, ⟨24, _⟩ => ⟨S1x128, .f32⟩
  | .local _ .vmem, ⟨25, _⟩ => ⟨S128x256, .f32⟩
  | .local _ .vmem, ⟨26, _⟩ => ⟨S128x256, .f32⟩
  | .local _ .vmem, ⟨27, _⟩ => ⟨S128x256, .f32⟩
  | .local _ .vmem, ⟨28, _⟩ => ⟨S128x256, .f32⟩
  | .local _ .vmem, ⟨29, _⟩ => ⟨S16x1792, .f32⟩
  | .local _ .vmem, ⟨30, _⟩ => ⟨S16x1792, .f32⟩
  | .local _ .vmem, ⟨31, _⟩ => ⟨S16x1792, .f32⟩
  | .local _ .vmem, ⟨32, _⟩ => ⟨S16x1792, .f32⟩
  | .local _ .vmem, ⟨33, _⟩ => ⟨S16x1, .f32⟩
  | .local _ .vmem, ⟨34, _⟩ => ⟨S16x1, .f32⟩
  | .local _ .vmem, ⟨35, _⟩ => ⟨S16x1, .f32⟩
  | .local _ .vmem, ⟨36, _⟩ => ⟨S16x1, .f32⟩
  | _, _ => ⟨S1024x544, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8_0 : Ref sig .tc := ⟨.hbm, 23, rfl⟩
abbrev main_v8_1 : Ref sig .tc := ⟨.hbm, 24, rfl⟩
abbrev main_cst : Ref sig .tc := ⟨.hbm, 25, rfl⟩
abbrev main_v9 : Ref sig .tc := ⟨.hbm, 26, rfl⟩
abbrev main_v10 : Ref sig .tc := ⟨.hbm, 27, rfl⟩
abbrev main_cst_0 : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_c_1 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_2 : Ref sig .tc := ⟨.hbm, 36, rfl⟩
abbrev main_v16 : Ref sig .tc := ⟨.hbm, 37, rfl⟩
abbrev main_v17_0 : Ref sig .tc := ⟨.hbm, 38, rfl⟩
abbrev main_v17_1 : Ref sig .tc := ⟨.hbm, 39, rfl⟩
abbrev main_v18 : Ref sig .tc := ⟨.hbm, 40, rfl⟩
abbrev main_v19 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg1_1 : Ref sig .tc := ⟨.vmem, 32, rfl⟩
abbrev cc2_stg2_0 : Ref sig .tc := ⟨.vmem, 33, rfl⟩
abbrev cc2_stg2_1 : Ref sig .tc := ⟨.vmem, 34, rfl⟩
abbrev cc2_stg3_0 : Ref sig .tc := ⟨.vmem, 35, rfl⟩
abbrev cc2_stg3_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem4_0 : DmaSem sig := 25
abbrev cc1_sem4_1 : DmaSem sig := 26
abbrev cc1_sem5_0 : DmaSem sig := 27
abbrev cc1_sem5_1 : DmaSem sig := 28
abbrev cc2_sem0_0 : DmaSem sig := 29
abbrev cc2_sem0_1 : DmaSem sig := 30
abbrev cc2_sem1_0 : DmaSem sig := 31
abbrev cc2_sem1_1 : DmaSem sig := 32
abbrev cc2_sem2_0 : DmaSem sig := 33
abbrev cc2_sem2_1 : DmaSem sig := 34
abbrev cc2_sem3_0 : DmaSem sig := 35
abbrev cc2_sem3_1 : DmaSem sig := 36

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x544 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S544x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S544x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨2, ![8, 7], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S7168x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x7168 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S128x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S128x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨1, ![64], ![false]⟩

@[reducible] def k2_t1_loop : Scf.Loop 32 :=
  let c0_i32 : BitVec 32 := 0#32
  let c50_i32 : BitVec 32 := 50#32
  let v6 : BitVec 32 := Scalar.addi c0_i32 c50_i32
  let c1_i32 : BitVec 32 := 1#32
  ⟨c0_i32, v6, c1_i32⟩
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16x1792 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S16x1792 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S16x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S16x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]
-- ==== ReferenceIdeal.lean ====
abbrev S1024x544 : Shape := ⟨2, ![1024, 544]⟩
abbrev S544x256 : Shape := ⟨2, ![544, 256]⟩
abbrev S256 : Shape := ⟨1, ![256]⟩
abbrev S256x128 : Shape := ⟨2, ![256, 128]⟩
abbrev S128 : Shape := ⟨1, ![128]⟩
abbrev S50000x128 : Shape := ⟨2, ![50000, 128]⟩
abbrev S50000 : Shape := ⟨1, ![50000]⟩
abbrev S128x1 : Shape := ⟨2, ![128, 1]⟩
abbrev S1 : Shape := ⟨1, ![1]⟩
abbrev S1024x256 : Shape := ⟨2, ![1024, 256]⟩
abbrev S1x256 : Shape := ⟨2, ![1, 256]⟩
abbrev S_ : Shape := ⟨0, ![]⟩
abbrev S1024x128 : Shape := ⟨2, ![1024, 128]⟩
abbrev S1x128 : Shape := ⟨2, ![1, 128]⟩
abbrev S1024 : Shape := ⟨1, ![1024]⟩
abbrev S1024x1 : Shape := ⟨2, ![1024, 1]⟩
abbrev S1x50000 : Shape := ⟨2, ![1, 50000]⟩
abbrev S1024x50000 : Shape := ⟨2, ![1024, 50000]⟩
abbrev S128x50000 : Shape := ⟨2, ![128, 50000]⟩
abbrev S1024x50 : Shape := ⟨2, ![1024, 50]⟩
abbrev S1024x50x1 : Shape := ⟨3, ![1024, 50, 1]⟩
abbrev S1x1x1 : Shape := ⟨3, ![1, 1, 1]⟩
abbrev S1x1 : Shape := ⟨2, ![1, 1]⟩

abbrev nBuf : Space → Nat
  | .hbm => 153
  | .vmem => 0
  | .smem => 0
  | _ => 0

abbrev hbmTy0_0 (i : Nat) : BufTy := match i % 128 with
  | 0 => ⟨S1024x544, .f32⟩
  | 1 => ⟨S544x256, .f32⟩
  | 2 => ⟨S256, .f32⟩
  | 3 => ⟨S256x128, .f32⟩
  | 4 => ⟨S128, .f32⟩
  | 5 => ⟨S128, .f32⟩
  | 6 => ⟨S128, .f32⟩
  | 7 => ⟨S50000x128, .f32⟩
  | 8 => ⟨S50000, .f32⟩
  | 9 => ⟨S544x256, .f32⟩
  | 10 => ⟨S256, .f32⟩
  | 11 => ⟨S256x128, .f32⟩
  | 12 => ⟨S128, .f32⟩
  | 13 => ⟨S128x1, .f32⟩
  | 14 => ⟨S1, .f32⟩
  | 15 => ⟨S1024x256, .f32⟩
  | 16 => ⟨S1x256, .f32⟩
  | 17 => ⟨S1024x256, .f32⟩
  | 18 => ⟨S1024x256, .f32⟩
  | 19 => ⟨S_, .f32⟩
  | 20 => ⟨S1024x256, .f32⟩
  | 21 => ⟨S1024x256, .f32⟩
  | 22 => ⟨S1024x128, .f32⟩
  | 23 => ⟨S1x128, .f32⟩
  | 24 => ⟨S1024x128, .f32⟩
  | 25 => ⟨S1024x128, .f32⟩
  | 26 => ⟨S_, .f32⟩
  | 27 => ⟨S1024, .f32⟩
  | 28 => ⟨S1024x1, .f32⟩
  | 29 => ⟨S_, .f32⟩
  | 30 => ⟨S1024x1, .f32⟩
  | 31 => ⟨S1024x1, .f32⟩
  | 32 => ⟨S_, .i32⟩
  | 33 => ⟨S_, .f32⟩
  | 34 => ⟨S1024, .f32⟩
  | 35 => ⟨S1024x1, .f32⟩
  | 36 => ⟨S_, .f32⟩
  | 37 => ⟨S1024x1, .f32⟩
  | 38 => ⟨S1024x1, .f32⟩
  | 39 => ⟨S1024x128, .f32⟩
  | 40 => ⟨S1024x128, .f32⟩
  | 41 => ⟨S1024x128, .f32⟩
  | 42 => ⟨S_, .f32⟩
  | 43 => ⟨S_, .f32⟩
  | 44 => ⟨S_, .f32⟩
  | 45 => ⟨S_, .f32⟩
  | 46 => ⟨S1024, .f32⟩
  | 47 => ⟨S1024x1, .f32⟩
  | 48 => ⟨S1024x1, .f32⟩
  | 49 => ⟨S1024x1, .f32⟩
  | 50 => ⟨S_, .f32⟩
  | 51 => ⟨S_, .i1⟩
  | 52 => ⟨S_, .f32⟩
  | 53 => ⟨S_, .f32⟩
  | 54 => ⟨S1024x1, .f32⟩
  | 55 => ⟨S1024x1, .f32⟩
  | 56 => ⟨S1024x128, .f32⟩
  | 57 => ⟨S1024x128, .f32⟩
  | 58 => ⟨S_, .f32⟩
  | 59 => ⟨S1024x1, .f32⟩
  | 60 => ⟨S1024x1, .f32⟩
  | 61 => ⟨S1024x1, .f32⟩
  | 62 => ⟨S1024x128, .f32⟩
  | 63 => ⟨S1024x128, .f32⟩
  | 64 => ⟨S1x128, .f32⟩
  | 65 => ⟨S1024x128, .f32⟩
  | 66 => ⟨S1024x128, .f32⟩
  | 67 => ⟨S1x128, .f32⟩
  | 68 => ⟨S1024x128, .f32⟩
  | 69 => ⟨S1024x128, .f32⟩
  | 70 => ⟨S1024x128, .f32⟩
  | 71 => ⟨S_, .f32⟩
  | 72 => ⟨S1024, .f32⟩
  | 73 => ⟨S1024x1, .f32⟩
  | 74 => ⟨S50000x128, .f32⟩
  | 75 => ⟨S_, .f32⟩
  | 76 => ⟨S50000, .f32⟩
  | 77 => ⟨S1x50000, .f32⟩
  | 78 => ⟨S1024x50000, .f32⟩
  | 79 => ⟨S1024x50000, .f32⟩
  | 80 => ⟨S1024x50000, .f32⟩
  | 81 => ⟨S128x50000, .f32⟩
  | 82 => ⟨S1024x50000, .f32⟩
  | 83 => ⟨S_, .f32⟩
  | 84 => ⟨S1024x50000, .f32⟩
  | 85 => ⟨S1024x50000, .f32⟩
  | 86 => ⟨S1024x50000, .f32⟩
  | 87 => ⟨S1024x50000, .f32⟩
  | 88 => ⟨S1024x50, .f32⟩
  | 89 => ⟨S1024x50, .i32⟩
  | 90 => ⟨S1024x50, .f32⟩
  | 91 => ⟨S_, .f32⟩
  | 92 => ⟨S1024x50, .f32⟩
  | 93 => ⟨S1024x50, .f32⟩
  | 94 => ⟨S_, .f32⟩
  | 95 => ⟨S1024x50, .f32⟩
  | 96 => ⟨S1024x50, .f32⟩
  | 97 => ⟨S_, .f32⟩
  | 98 => ⟨S1024, .f32⟩
  | 99 => ⟨S1024x1, .f32⟩
  | 100 => ⟨S1024x50, .f32⟩
  | 101 => ⟨S1024x50, .f32⟩
  | 102 => ⟨S_, .i32⟩
  | 103 => ⟨S1024x50, .i32⟩
  | 104 => ⟨S1024x50, .i1⟩
  | 105 => ⟨S_, .i32⟩
  | 106 => ⟨S1024x50, .i32⟩
  | 107 => ⟨S1024x50, .i32⟩
  | 108 => ⟨S1024x50, .i32⟩
  | 109 => ⟨S1024x50x1, .i32⟩
  | 110 => ⟨S1, .i32⟩
  | 111 => ⟨S_, .i32⟩
  | 112 => ⟨S1024x50x1, .i32⟩
  | 113 => ⟨S1024x50x1, .i1⟩
  | 114 => ⟨S1x1x1, .i32⟩
  | 115 => ⟨S1024x50x1, .i32⟩
  | 116 => ⟨S1024x50x1, .i1⟩
  | 117 => ⟨S1024x50x1, .i1⟩
  | 118 => ⟨S_, .i1⟩
  | 119 => ⟨S1024x50, .i1⟩
  | 120 => ⟨S1024x50, .f32⟩
  | 121 => ⟨S_, .f32⟩
  | 122 => ⟨S1024x50, .f32⟩
  | 123 => ⟨S1024x50, .f32⟩
  | 124 => ⟨S1024x50, .f32⟩
  | 125 => ⟨S_, .f32⟩
  | 126 => ⟨S1024, .f32⟩
  | 127 => ⟨S1024x256, .f32⟩
  | _ => ⟨S1024x544, .f32⟩

abbrev hbmTy0_1 (i : Nat) : BufTy := match i % 128 with
  | 0 => ⟨S1x256, .f32⟩
  | 1 => ⟨S1024x256, .f32⟩
  | 2 => ⟨S1024x256, .f32⟩
  | 3 => ⟨S_, .f32⟩
  | 4 => ⟨S1024x256, .f32⟩
  | 5 => ⟨S1024x256, .f32⟩
  | 6 => ⟨S1024x128, .f32⟩
  | 7 => ⟨S1x128, .f32⟩
  | 8 => ⟨S1024x128, .f32⟩
  | 9 => ⟨S1024x128, .f32⟩
  | 10 => ⟨S_, .f32⟩
  | 11 => ⟨S1024x128, .f32⟩
  | 12 => ⟨S1024x128, .f32⟩
  | 13 => ⟨S1024x1, .f32⟩
  | 14 => ⟨S1x1, .f32⟩
  | 15 => ⟨S1024x1, .f32⟩
  | 16 => ⟨S1024x1, .f32⟩
  | 17 => ⟨S1024, .f32⟩
  | 18 => ⟨S_, .f32⟩
  | 19 => ⟨S1024, .f32⟩
  | 20 => ⟨S1024, .f32⟩
  | 21 => ⟨S_, .f32⟩
  | 22 => ⟨S1024, .f32⟩
  | 23 => ⟨S1024, .f32⟩
  | 24 => ⟨S1024, .f32⟩
  | _ => ⟨S1024x544, .f32⟩

abbrev hbmTy (i : Nat) : BufTy := match i / 128 with
  | 0 => hbmTy0_0 i
  | 1 => hbmTy0_1 i
  | _ => ⟨S1024x544, .f32⟩

abbrev bufTy : (tb : Table) → Fin (tcTables nBuf tb) → BufTy
  | .hbm, ⟨i, _⟩ => hbmTy i
  | _, _ => ⟨S1024x544, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_cst_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_cst_1 : Ref sig .tc := ⟨.hbm, 43, rfl⟩
abbrev main_call0_v8 : Ref sig .tc := ⟨.hbm, 44, rfl⟩
abbrev main_call0_cst_2 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_v12 : Ref sig .tc := ⟨.hbm, 49, rfl⟩
abbrev main_call0_cst_3 : Ref sig .tc := ⟨.hbm, 50, rfl⟩
abbrev main_call0_v13 : Ref sig .tc := ⟨.hbm, 51, rfl⟩
abbrev main_call0_cst_4 : Ref sig .tc := ⟨.hbm, 52, rfl⟩
abbrev main_call0_call0_v0 : Ref sig .tc := ⟨.hbm, 53, rfl⟩
abbrev main_call0_call0_v1 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_cst_2 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_cst_3 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_cst_4 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_cst_5 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_values : Ref sig .tc := ⟨.hbm, 88, rfl⟩
abbrev main_indices : Ref sig .tc := ⟨.hbm, 89, rfl⟩
abbrev main_v43 : Ref sig .tc := ⟨.hbm, 90, rfl⟩
abbrev main_cst_6 : Ref sig .tc := ⟨.hbm, 91, rfl⟩
abbrev main_v44 : Ref sig .tc := ⟨.hbm, 92, rfl⟩
abbrev main_v45 : Ref sig .tc := ⟨.hbm, 93, rfl⟩
abbrev main_cst_7 : Ref sig .tc := ⟨.hbm, 94, rfl⟩
abbrev main_v46 : Ref sig .tc := ⟨.hbm, 95, rfl⟩
abbrev main_v47 : Ref sig .tc := ⟨.hbm, 96, rfl⟩
abbrev main_cst_8 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_call1_c : Ref sig .tc := ⟨.hbm, 102, rfl⟩
abbrev main_call1_v0 : Ref sig .tc := ⟨.hbm, 103, rfl⟩
abbrev main_call1_v1 : Ref sig .tc := ⟨.hbm, 104, rfl⟩
abbrev main_call1_c_0 : Ref sig .tc := ⟨.hbm, 105, rfl⟩
abbrev main_call1_v2 : Ref sig .tc := ⟨.hbm, 106, rfl⟩
abbrev main_call1_v3 : Ref sig .tc := ⟨.hbm, 107, rfl⟩
abbrev main_call1_v4 : Ref sig .tc := ⟨.hbm, 108, rfl⟩
abbrev main_call1_v5 : Ref sig .tc := ⟨.hbm, 109, rfl⟩
abbrev main_call1_c_1 : Ref sig .tc := ⟨.hbm, 110, rfl⟩
abbrev main_call1_c_2 : Ref sig .tc := ⟨.hbm, 111, rfl⟩
abbrev main_call1_v6 : Ref sig .tc := ⟨.hbm, 112, rfl⟩
abbrev main_call1_v7 : Ref sig .tc := ⟨.hbm, 113, rfl⟩
abbrev main_call1_v8 : Ref sig .tc := ⟨.hbm, 114, rfl⟩
abbrev main_call1_v9 : Ref sig .tc := ⟨.hbm, 115, rfl⟩
abbrev main_call1_v10 : Ref sig .tc := ⟨.hbm, 116, rfl⟩
abbrev main_call1_v11 : Ref sig .tc := ⟨.hbm, 117, rfl⟩
abbrev main_call1_c_3 : Ref sig .tc := ⟨.hbm, 118, rfl⟩
abbrev main_call1_v12 : Ref sig .tc := ⟨.hbm, 119, rfl⟩
abbrev main_call1_v13 : Ref sig .tc := ⟨.hbm, 120, rfl⟩
abbrev main_call1_cst : Ref sig .tc := ⟨.hbm, 121, rfl⟩
abbrev main_call1_v14 : Ref sig .tc := ⟨.hbm, 122, rfl⟩
abbrev main_v52 : Ref sig .tc := ⟨.hbm, 123, rfl⟩
abbrev main_v53 : Ref sig .tc := ⟨.hbm, 124, rfl⟩
abbrev main_cst_9 : Ref sig .tc := ⟨.hbm, 125, rfl⟩
abbrev main_v54 : Ref sig .tc := ⟨.hbm, 126, rfl⟩
abbrev main_v55 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_cst_10 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev main_v64 : Ref sig .tc := ⟨.hbm, 137, rfl⟩
abbrev main_cst_11 : Ref sig .tc := ⟨.hbm, 138, rfl⟩
abbrev main_v65 : Ref sig .tc := ⟨.hbm, 139, rfl⟩
abbrev main_v66 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_cst_12 : Ref sig .tc := ⟨.hbm, 146, rfl⟩
abbrev main_v72 : Ref sig .tc := ⟨.hbm, 147, rfl⟩
abbrev main_v73 : Ref sig .tc := ⟨.hbm, 148, rfl⟩
abbrev main_cst_13 : Ref sig .tc := ⟨.hbm, 149, rfl⟩
abbrev main_v74 : Ref sig .tc := ⟨.hbm, 150, rfl⟩
abbrev main_v75 : Ref sig .tc := ⟨.hbm, 151, rfl⟩
abbrev main_v76 : Ref sig .tc := ⟨.hbm, 152, rfl⟩

abbrev nD : Nat := 1
abbrev τ : Topo := Topo.v7x

variable {F : FTy → Type} [FloatOps F]
-- ==== Proof.Facts.lean ====
/- Hand-written, untrusted: the side conditions that the precondition `separated` states, and the frames of the reference. -/
module

public import proofs.«01_k».proof.Defs
public import proofs.«01_k».proof.Proof.Gen.ReferenceIdeal.Run
public import Idealize.ShloMosaic.Lib.Affine
public import Idealize.ShloMosaic.Lib.Decide
public import Idealize.ShloMosaic.Lib.Quiescent

@[expose] public section

set_option maxRecDepth 8192

noncomputable section

namespace Cert.Proof

open Idealize.ShloMosaic Idealize.SL.Sem

/-- The shapes of the precondition fit together as its text says. -/
instance preFacts : Cert.Pre_separated.Facts := by
  constructor <;> decide

/-- The reference terminates, leaves its arguments alone, and no semaphore of its machine is touched: it has none. -/
theorem frame_reference : Cert.quiescent_ReferenceIdeal (hReferenceIdeal := Cert.ReferenceIdeal.Gen.facts) := by
  intro m g _
  exact (θ_run _ _ _).mono (fun r h => ⟨fun c => (h c).2, sem_eq_zero_of_no_sems (by decide) r.2⟩)
    (Cert.ReferenceIdeal.Value.run m g)

end Cert.Proof
-- ==== Proof.KernelRun.lean ====
/- Hand-written, untrusted: the kernel's run, its result read at the end of the launch. The set-up of the launch is the one
   of the generated frame; what is new is that the result buffer is read beside the arguments. -/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the kernel terminates, with its result array at the contents `W6` that the boundaries of the launch
    compose, and its arguments as launched. -/
theorem run_result : θ_run defs (onTc (τ := τ) (main (F := F))) ⟨m, fun _ => 0, ρ⟩ (fun r => ∀ c : Dev nD,
      r.2.mem ((c.tc : Thread nD τ).loc main_v19) = W6 m ρ c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨h c _ (mem_uc main_v19 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c)⟩)

end Cert.KernelIdeal.Gen
-- ==== Proof.Select.lean ====
/- Hand-written, untrusted: the combinatorics of taking the smallest elements of a row. Elements are compared by their value
   and, of equal values, by their position; the rank of an element is the number of elements before it. -/
module

public import Idealize.ShloMosaic.Lib.SortPrefix
public import Idealize.ShloMosaic.Lib.SortFacts
public import Mathlib.Data.Prod.Lex
public import Mathlib.Data.EReal.Operations
public import Mathlib.Order.CompleteLattice.Finset
public import Mathlib.Algebra.BigOperators.Group.Finset.Basic
public import Mathlib.Data.Fintype.Card
public import Mathlib.Order.ConditionallyCompleteLattice.Finset

@[expose] public section

noncomputable section

namespace Cert.Proof.Select

open Idealize.ShloMosaic

/-! ## The stable sort orders by value, then by position -/

section Stable

variable {n : ℕ} {β : Type} [LinearOrder β] (x : Fin n → β)

/-- An element's place in the order: its value first, then its position. -/
def place (a : Fin n) : β ×ₗ Fin n := toLex (x a, a)

theorem place_injective : Function.Injective (place x) := fun a b h => by
  have := congrArg (fun p => (ofLex p).2) h
  simpa [place] using this

/-- Of two elements the one with the smaller value comes first; of equal values the one further left. -/
theorem place_lt {a b : Fin n} : place x a < place x b ↔ x a < x b ∨ x a = x b ∧ a < b := by
  simp [place, Prod.Lex.toLex_lt_toLex]

/-- Comparing by value alone. -/
def byValue (a b : Fin n) : Bool := decide (x a < x b)

/-- Comparing by value, then by position. -/
def byPlace (a b : Fin n) : Bool := decide (place x a < place x b)

/-- An element that lies left of a whole list is inserted at the same spot by either comparison. -/
theorem insertBefore_byValue (a : Fin n) (l : List (Fin n)) (h : ∀ b ∈ l, a < b) :
    insertBefore (byValue x) a l = insertBefore (byPlace x) a l := by
  induction l with
  | nil => rfl
  | cons b l ih =>
    have hb : byPlace x b a = byValue x b a := by
      have := h b (by simp)
      simp [byPlace, byValue, place_lt, this.le, not_lt.mpr this.le]
    unfold insertBefore
    rw [hb, ih fun c hc => h c (by simp [hc])]

/-- A list in increasing order of positions is sorted alike by either comparison. -/
theorem stableSort_byValue (l : List (Fin n)) (h : l.Pairwise (· < ·)) :
    stableSort (byValue x) l = stableSort (byPlace x) l := by
  induction l with
  | nil => rfl
  | cons a l ih =>
    rw [List.pairwise_cons] at h
    unfold stableSort
    rw [ih h.2]
    exact insertBefore_byValue x a _ fun b hb => h.1 b ((perm_stableSort _ l).mem_iff.mp hb)

/-- The stable sort by value lists the elements in the order of their places. -/
theorem sorted_place (i j : Fin n) (hij : i < j) :
    place x (sortedFrom (byValue x) i) < place x (sortedFrom (byValue x) j) := by
  have e : sortedFrom (byValue x) = sortedFrom (byPlace x) := by
    funext k
    have : sortPositions n (byValue x) = sortPositions n (byPlace x) :=
      stableSort_byValue x _ (List.pairwise_lt_finRange n)
    simp only [sortedFrom, List.get_eq_getElem, this]
    rfl
  rw [e]
  have h := sortedFrom_noInversion (byPlace x) (byPlace x)
    (fun a b h => by simp only [byPlace, decide_eq_true_eq, decide_eq_false_iff_not] at *; exact h.asymm)
    (fun _ _ h => h)
    (fun a b c h k => by
      simp only [byPlace, decide_eq_false_iff_not, not_lt] at *; exact k.trans h) i j hij
  simp only [byPlace, decide_eq_false_iff_not, not_lt] at h
  exact lt_of_le_of_ne h fun q => hij.ne (sortedFrom_injective _ (place_injective x q))

end Stable

/-! ## Ranks -/

section Rank

variable {α β : Type} [Fintype α] [LinearOrder β] (key : α → β)

/-- How many elements come before `a`. -/
def rank (a : α) : ℕ := (Finset.univ.filter fun b => key b < key a).card

theorem rank_lt_rank {a b : α} (h : key a < key b) : rank key a < rank key b := by
  refine Finset.card_lt_card ⟨fun c hc => ?_, fun hs => ?_⟩
  · simp only [Finset.mem_filter, Finset.mem_univ, true_and] at *; exact hc.trans h
  · have := hs (show a ∈ Finset.univ.filter fun c => key c < key b by simpa using h)
    simp at this

theorem rank_injective (hk : Function.Injective key) : Function.Injective (rank key) := fun a b h => by
  by_contra hne
  rcases lt_or_gt_of_ne (fun e => hne (hk e)) with q | q
  · exact absurd h (rank_lt_rank key q).ne
  · exact absurd h (rank_lt_rank key q).ne'

theorem rank_lt_iff (hk : Function.Injective key) {a b : α} : rank key a < rank key b ↔ key a < key b := by
  refine ⟨fun h => ?_, rank_lt_rank key⟩
  by_contra q
  rcases (not_lt.mp q).lt_or_eq with q | q
  · exact absurd h (rank_lt_rank key q).not_gt
  · rw [hk q] at h; exact lt_irrefl _ h

theorem rank_lt_card (a : α) : rank key a < Fintype.card α := by
  refine (Finset.card_lt_card (Finset.filter_ssubset.mpr ⟨a, Finset.mem_univ a, ?_⟩)).trans_eq Finset.card_univ
  simp

/-- Every rank below the number of elements is some element's. -/
theorem exists_rank (hk : Function.Injective key) (t : ℕ) (ht : t < Fintype.card α) : ∃ a, rank key a = t := by
  have hinj : Function.Injective fun a => (⟨rank key a, rank_lt_card key a⟩ : Fin (Fintype.card α)) :=
    fun a b h => rank_injective key hk (Fin.mk.inj_iff.mp h)
  have hsur := ((Fintype.bijective_iff_injective_and_card _).mpr ⟨hinj, by simp⟩).2
  obtain ⟨a, ha⟩ := hsur ⟨t, ht⟩
  exact ⟨a, Fin.mk.inj_iff.mp ha⟩

/-- An increasing list of all elements has its `i`-th element at rank `i`. -/
theorem rank_enum {n : ℕ} (e : Fin n → α) (he : Function.Surjective e) (hm : ∀ i j, i < j → key (e i) < key (e j))
    (i : Fin n) : rank key (e i) = i := by
  have hi : Function.Injective e := fun a b h => by
    by_contra hne
    rcases lt_or_gt_of_ne hne with q | q
    · exact absurd (congrArg key h) (hm _ _ q).ne
    · exact absurd (congrArg key h) (hm _ _ q).ne'
  have : (Finset.univ.filter fun b => key b < key (e i)) = (Finset.univ.filter fun j => j < i).map ⟨e, hi⟩ := by
    ext b
    obtain ⟨j, rfl⟩ := he b
    simp only [Finset.mem_filter, Finset.mem_univ, true_and, Finset.mem_map, Function.Embedding.coeFn_mk]
    refine ⟨fun h => ⟨j, ?_, rfl⟩, ?_⟩
    · by_contra q
      rcases (not_lt.mp q).lt_or_eq with q | q
      · exact absurd h (hm _ _ q).not_gt
      · rw [q] at h; exact lt_irrefl _ h
    · rintro ⟨j', hj', hjj⟩
      rw [← hi hjj]
      exact hm _ _ hj'
  rw [rank, this, Finset.card_map, Finset.filter_gt_eq_Iio, Fin.card_Iio]

variable {M : Type} [AddCommMonoid M]

/-- A sum over the `k` first elements, named by any function that hits each rank below `k`. -/
theorem sum_first (hk : Function.Injective key) (k : ℕ) (p : Fin k → α) (hp : ∀ t, rank key (p t) = t) (f : α → M) :
    ∑ t, f (p t) = ∑ a ∈ Finset.univ.filter (fun a => rank key a < k), f a := by
  refine Finset.sum_bij (fun t _ => p t) (fun t _ => ?_) (fun t _ t' _ h => ?_) (fun a ha => ?_) (fun _ _ => rfl)
  · simp [hp]
  · exact Fin.ext (by rw [← hp t, ← hp t', h])
  · simp only [Finset.mem_filter, Finset.mem_univ, true_and] at ha
    exact ⟨⟨rank key a, ha⟩, Finset.mem_univ _, rank_injective key hk (hp _)⟩

end Rank

/-! ## Two rows with the same near elements -/

section Transfer

variable {α γ β δ : Type} [Fintype α] [Fintype γ] [LinearOrder β] [LinearOrder δ] (key : α → β) (key' : γ → δ)
  (near : α → Prop) (near' : γ → Prop) [DecidablePred near] [DecidablePred near'] (φ : γ → α)
  (hlow : ∀ a b, near b → key a < key b → near a) (hlow' : ∀ a b, near' b → key' a < key' b → near' a)
  (hmap : ∀ c, near' c → near (φ c)) (hsurj : ∀ a, near a → ∃ c, near' c ∧ φ c = a)
  (hmono : ∀ c c', near' c → near' c' → key' c < key' c' → key (φ c) < key (φ c'))
  (hk' : Function.Injective key')

include hlow hlow' hmap hsurj hmono hk' in
/-- A matching of the near elements that keeps their order keeps their ranks. -/
theorem rank_transfer (c : γ) (hc : near' c) : rank key (φ c) = rank key' c := by
  have hinj : ∀ a b, near' a → near' b → φ a = φ b → a = b := fun a b ha hb h => by
    by_contra hne
    rcases lt_or_gt_of_ne (fun e => hne (hk' e)) with q | q
    · exact absurd (congrArg key h) (hmono _ _ ha hb q).ne
    · exact absurd (congrArg key h) (hmono _ _ hb ha q).ne'
  symm
  refine Finset.card_bij (fun a _ => φ a) (fun a ha => ?_) (fun a ha b hb h => ?_) (fun b hb => ?_)
  · simp only [Finset.mem_filter, Finset.mem_univ, true_and] at *
    exact hmono a c (hlow' a c hc ha) hc ha
  · simp only [Finset.mem_filter, Finset.mem_univ, true_and] at *
    exact hinj a b (hlow' a c hc ha) (hlow' b c hc hb) h
  · simp only [Finset.mem_filter, Finset.mem_univ, true_and] at *
    obtain ⟨a, ha, rfl⟩ := hsurj b (hlow b _ (hmap c hc) hb)
    refine ⟨a, ?_, rfl⟩
    by_contra q
    rcases (not_lt.mp q).lt_or_eq with q | q
    · exact absurd hb (hmono _ _ hc ha q).not_gt
    · rw [hk' q] at hb; exact lt_irrefl _ hb

include hlow in
/-- Where at least `k` elements are near, the `k` first are near. -/
theorem near_of_rank (hk : Function.Injective key) (k : ℕ) (hcard : k ≤ (Finset.univ.filter near).card) (a : α)
    (ha : rank key a < k) : near a := by
  by_contra hn
  refine absurd (hcard.trans (Finset.card_le_card (t := Finset.univ.filter fun b => key b < key a) fun b hb => ?_)) ha.not_ge
  simp only [Finset.mem_filter, Finset.mem_univ, true_and] at *
  by_contra q
  rcases (not_lt.mp q).lt_or_eq with q | q
  · exact hn (hlow _ _ hb q)
  · exact hn (hk q ▸ hb)

include hlow hlow' hmap hsurj hmono hk' in
/-- The sum over the `k` first elements is the same in both rows, where at least `k` are near. -/
theorem sum_transfer (hk : Function.Injective key) (k : ℕ) (hcard : k ≤ (Finset.univ.filter near).card)
    (hcard' : k ≤ (Finset.univ.filter near').card) {M : Type} [AddCommMonoid M] (f : α → M) (g : γ → M)
    (hfg : ∀ c, near' c → f (φ c) = g c) :
    ∑ a ∈ Finset.univ.filter (fun a => rank key a < k), f a = ∑ c ∈ Finset.univ.filter (fun c => rank key' c < k), g c := by
  have hr := rank_transfer key key' near near' φ hlow hlow' hmap hsurj hmono hk'
  symm
  refine Finset.sum_bij (fun c _ => φ c) (fun c hc => ?_) (fun c hc c' hc' h => ?_) (fun a ha => ?_) (fun c hc => ?_)
  · simp only [Finset.mem_filter, Finset.mem_univ, true_and] at *
    rw [hr c (near_of_rank key' near' hlow' hk' k hcard' c hc)]; exact hc
  · simp only [Finset.mem_filter, Finset.mem_univ, true_and] at *
    have h1 := hr c (near_of_rank key' near' hlow' hk' k hcard' c hc)
    have h2 := hr c' (near_of_rank key' near' hlow' hk' k hcard' c' hc')
    exact rank_injective key' hk' (by rw [← h1, ← h2, h])
  · simp only [Finset.mem_filter, Finset.mem_univ, true_and] at *
    obtain ⟨c, hc, rfl⟩ := hsurj a (near_of_rank key near hlow hk k hcard a ha)
    exact ⟨c, by rw [← hr c hc]; exact ha, rfl⟩
  · simp only [Finset.mem_filter, Finset.mem_univ, true_and] at hc
    exact (hfg c (near_of_rank key' near' hlow' hk' k hcard' c hc)).symm

include hmap hsurj in
/-- Matched rows have equally many near elements, as far as a bound from below goes. -/
theorem card_near_le [DecidableEq α] : (Finset.univ.filter near).card ≤ (Finset.univ.filter near').card := by
  refine (Finset.card_le_card (t := (Finset.univ.filter near').image φ) fun a ha => ?_).trans Finset.card_image_le
  simp only [Finset.mem_filter, Finset.mem_univ, true_and, Finset.mem_image] at *
  exact hsurj a ha

end Transfer

/-! ## Rounds: the smallest value, the sum over where it stands, then those places overwritten -/

section Rounds

variable {n : ℕ} (d v : Fin n → EReal) (big : EReal)

/-- The row after `r` rounds: each round overwrites the places of the smallest value by `big`. -/
def rowAt : ℕ → Fin n → EReal
  | 0 => d
  | r + 1 => fun l => if rowAt r l = ⨅ i, rowAt r i then big else rowAt r l

/-- The smallest value of round `r`. -/
def least (r : ℕ) : EReal := ⨅ l, rowAt d big r l

/-- The values that stand where round `r`'s smallest value stands, added up. -/
def taken (r : ℕ) : EReal := ∑ l, if rowAt d big r l = least d big r then v l else 0

variable [NeZero n] (T : EReal) (hbig : T < big) (σ : Fin n → Fin n) (hσ : Function.Bijective σ)
  (hmono : ∀ i j, i ≤ j → d (σ i) ≤ d (σ j)) (R : ℕ)
  (hstrict : ∀ i j : Fin n, (i : ℕ) < R → i < j → d (σ i) ≤ T → d (σ i) < d (σ j))

include hσ in
/-- A smallest value is attained, in a row listed by `σ`. -/
theorem exists_iInf (f : Fin n → EReal) : ∃ j, f (σ j) = ⨅ l, f l := by
  obtain ⟨l, hl⟩ := exists_eq_ciInf_of_finite (f := f)
  obtain ⟨j, rfl⟩ := hσ.2 l
  exact ⟨j, hl⟩

include hbig hσ hmono hstrict in
/-- With `σ` listing the row in increasing order, strictly so among its near ones, round `r` of `R` finds the `r`-th element:
    as long as it is near its value is the smallest and alone, and from then on nothing near is left. -/
theorem round_state (r : ℕ) (hr : r ≤ R) (hn : r < n) :
    (d (σ ⟨r, hn⟩) ≤ T → ∀ j, rowAt d big r (σ j) = if (j : ℕ) < r then big else d (σ j)) ∧
    (T < d (σ ⟨r, hn⟩) → ∀ j, T < rowAt d big r (σ j)) := by
  induction r with
  | zero =>
    refine ⟨fun _ j => by simp [rowAt], fun h j => lt_of_lt_of_le h (hmono _ _ (by simp [Fin.le_def]))⟩
  | succ r ih =>
    have hn' : r < n := by omega
    obtain ⟨ih1, ih2⟩ := ih (by omega) hn'
    have hle : d (σ ⟨r, hn'⟩) ≤ d (σ ⟨r + 1, hn⟩) := hmono _ _ (by simp [Fin.le_def])
    by_cases hT : d (σ ⟨r, hn'⟩) ≤ T
    · have hrow := ih1 hT
      have hmin : (⨅ l, rowAt d big r l) = d (σ ⟨r, hn'⟩) := by
        refine le_antisymm ((iInf_le _ (σ ⟨r, hn'⟩)).trans_eq (by rw [hrow]; simp)) ?_
        refine le_iInf fun l => ?_
        obtain ⟨j, rfl⟩ := hσ.2 l
        rw [hrow]
        split
        · exact (hT.trans_lt hbig).le
        · exact hmono _ _ (by simp only [Fin.le_def]; omega)
      have hnext : ∀ j, rowAt d big (r + 1) (σ j) = if (j : ℕ) < r + 1 then big else d (σ j) := fun j => by
        simp only [rowAt, hmin, hrow]
        rcases lt_trichotomy (j : ℕ) r with h | h | h
        · simp [h, h.trans (Nat.lt_succ_self r)]
        · have : j = ⟨r, hn'⟩ := Fin.ext h
          subst this; simp
        · have h1 : ¬ (j : ℕ) < r := by omega
          have h2 : ¬ (j : ℕ) < r + 1 := by omega
          simp only [h1, h2, if_false]
          rw [if_neg]
          exact (hstrict ⟨r, hn'⟩ j (show r < R by omega) (by simpa [Fin.lt_def] using h) hT).ne'
      refine ⟨fun _ => hnext, fun h j => ?_⟩
      rw [hnext]
      split
      · exact hbig
      · exact lt_of_lt_of_le h (hmono _ _ (by simp only [Fin.le_def]; omega))
    · have hfar := ih2 (not_le.mp hT)
      refine ⟨fun h => absurd (hle.trans h) hT, fun _ j => ?_⟩
      simp only [rowAt]
      split
      · exact hbig
      · exact hfar j

include hbig hσ hmono hstrict in
/-- Round `r` finds the `r`-th element where it is near: its value, and the value that stands there. -/
theorem round_near (r : ℕ) (hr : r < R) (hn : r < n) (h : d (σ ⟨r, hn⟩) ≤ T) :
    least d big r = d (σ ⟨r, hn⟩) ∧ taken d v big r = v (σ ⟨r, hn⟩) := by
  have hrow := (round_state d big T hbig σ hσ hmono R hstrict r hr.le hn).1 h
  have hmin : least d big r = d (σ ⟨r, hn⟩) := by
    refine le_antisymm ((iInf_le _ (σ ⟨r, hn⟩)).trans_eq (by rw [hrow]; simp)) (le_iInf fun l => ?_)
    obtain ⟨j, rfl⟩ := hσ.2 l
    rw [hrow]
    split
    · exact (h.trans_lt hbig).le
    · exact hmono _ _ (by simp only [Fin.le_def]; omega)
  refine ⟨hmin, ?_⟩
  rw [taken, Finset.sum_eq_single (σ ⟨r, hn⟩)]
  · rw [if_pos (by rw [hmin, hrow]; simp)]
  · intro l _ hl
    obtain ⟨j, rfl⟩ := hσ.2 l
    rw [if_neg]
    rw [hmin, hrow]
    split
    · exact (h.trans_lt hbig).ne'
    · rename_i hj
      have : (⟨r, hn⟩ : Fin n) < j := lt_of_le_of_ne (by simp only [Fin.le_def]; omega) fun e => hl (by rw [e])
      exact (hstrict ⟨r, hn⟩ j hr this h).ne'
  · simp

include hbig hσ hmono hstrict in
/-- Round `r` finds nothing near where the `r`-th element is not. -/
theorem round_far (r : ℕ) (hr : r < R) (hn : r < n) (h : T < d (σ ⟨r, hn⟩)) : T < least d big r := by
  obtain ⟨j, hj⟩ := exists_iInf σ hσ (rowAt d big r)
  rw [least, ← hj]
  exact (round_state d big T hbig σ hσ hmono R hstrict r hr.le hn).2 h j

end Rounds

/-! ## Picks: the smallest value's first place, that place overwritten by +∞ -/

section Picks

variable {n : ℕ} (d : Fin n → EReal)

/-- `s` is the first place of the smallest value of the row. -/
def IsFirst (x : Fin n → EReal) (s : Fin n) : Prop := x s = (⨅ i, x i) ∧ ∀ s', x s' = (⨅ i, x i) → s ≤ s'

open Classical in
/-- The row after `t` picks. -/
def pickRow : ℕ → Fin n → EReal
  | 0 => d
  | t + 1 => fun s => if IsFirst (pickRow t) s then ⊤ else pickRow t s

variable (k : ℕ) (p : ℕ → Fin n) (hp : ∀ t < k, rank (place d) (p t) = t) (hfin : ∀ t < k, d (p t) < ⊤)

include hp hfin in
/-- Where the elements of the first `k` ranks are not +∞, pick `t` is the element of rank `t`. -/
theorem pick_state (t : ℕ) (ht : t ≤ k) : (∀ s, pickRow d t s = if rank (place d) s < t then ⊤ else d s) ∧
    (t < k → (⨅ s, pickRow d t s) = d (p t) ∧ ∀ s, IsFirst (pickRow d t) s ↔ s = p t) := by
  have main : ∀ t, t ≤ k → (∀ s, pickRow d t s = if rank (place d) s < t then ⊤ else d s) →
      (t < k → (⨅ s, pickRow d t s) = d (p t) ∧ ∀ s, IsFirst (pickRow d t) s ↔ s = p t) := by
    intro t _ hrow ht
    have hat : pickRow d t (p t) = d (p t) := by rw [hrow, hp t ht]; simp
    -- what is not overwritten comes no earlier than the element of rank `t`
    have hge : ∀ s, ¬ rank (place d) s < t → place d (p t) ≤ place d s := fun s hs => by
      by_contra q
      have := rank_lt_rank (place d) (not_le.mp q)
      rw [hp t ht] at this
      exact hs this
    have hgev : ∀ s, ¬ rank (place d) s < t → d (p t) ≤ d s := fun s hs => by
      rcases (hge s hs).lt_or_eq with q | q
      · rcases (place_lt d).mp q with q | q
        · exact q.le
        · exact q.1.le
      · rw [place_injective d q]
    have hmin : (⨅ s, pickRow d t s) = d (p t) := by
      refine le_antisymm ((iInf_le _ (p t)).trans_eq hat) (le_iInf fun s => ?_)
      rw [hrow]
      split
      · exact le_top
      · exact hgev s ‹_›
    refine ⟨hmin, fun s => ⟨fun h => ?_, ?_⟩⟩
    · obtain ⟨h1, h2⟩ := h
      rw [hmin, hrow] at h1
      have hs : ¬ rank (place d) s < t := fun q => by
        rw [if_pos q] at h1; exact (hfin t ht).ne h1.symm
      rw [if_neg hs] at h1
      have h3 := h2 (p t) (by rw [hmin, hat])
      rcases (hge s hs).lt_or_eq with q | q
      · rcases (place_lt d).mp q with q | q
        · exact absurd h1 q.ne'
        · exact absurd h3 q.2.not_ge
      · exact (place_injective d q).symm
    · rintro rfl
      refine ⟨by rw [hmin, hat], fun s h => ?_⟩
      rw [hmin, hrow] at h
      have hs : ¬ rank (place d) s < t := fun q => by
        rw [if_pos q] at h; exact (hfin t ht).ne h.symm
      rw [if_neg hs] at h
      rcases (hge s hs).lt_or_eq with q | q
      · rcases (place_lt d).mp q with q | q
        · exact absurd h q.ne'
        · exact q.2.le
      · rw [place_injective d q]
  have row : ∀ t, t ≤ k → ∀ s, pickRow d t s = if rank (place d) s < t then ⊤ else d s := by
    intro t
    induction t with
    | zero => intro _ s; simp [pickRow]
    | succ t ih =>
      intro ht s
      have h := ih (by omega)
      have hm := (main t (by omega) h (by omega)).2 s
      simp only [pickRow]
      by_cases e : s = p t
      · rw [if_pos (hm.mpr e), if_pos (by rw [e, hp t (by omega)]; omega)]
      · rw [if_neg fun q => e (hm.mp q), h]
        have : rank (place d) s ≠ t := fun q => e (rank_injective _ (place_injective d) (by rw [q, hp t (by omega)]))
        by_cases q : rank (place d) s < t
        · rw [if_pos q, if_pos (by omega)]
        · rw [if_neg q, if_neg (by omega)]
  exact ⟨row t ht, main t ht (row t ht)⟩

end Picks

end Cert.Proof.Select
-- ==== Proof.Spec.lean ====
/- Hand-written, untrusted: the mathematics both programs compute, one query row at a time, over rows of extended reals. -/
module

public import Idealize.ShloMosaic.PureOps
public import Idealize.ShloMosaic.Lib.Pointwise
public import proofs.«01_k».proof.Proof.Select

@[expose] public section

noncomputable section

namespace Cert.Proof

open Idealize.ShloMosaic

/-- An array of one axis as a row. -/
abbrev vec {n : ℕ} (x : FVec Ideal ⟨1, ![n]⟩ .f32) (a : Fin n) : EReal := x (ix1 a)

/-- An array of two axes as rows. -/
abbrev mat {n k : ℕ} (x : FVec Ideal ⟨2, ![n, k]⟩ .f32) (a : Fin n) (b : Fin k) : EReal := x (ix2 a b)

/-- A dense layer. -/
def dense {k n : ℕ} (x : Fin k → EReal) (W : Fin k → Fin n → EReal) (b : Fin n → EReal) (j : Fin n) : EReal :=
  ∑ i, x i * W i j + b j

/-- The positive part, entry by entry. -/
def pos {n : ℕ} (x : Fin n → EReal) (j : Fin n) : EReal := max (x j) 0

/-- A row less its mean. -/
def center (x : Fin 128 → EReal) (j : Fin 128) : EReal := x j - Ideal.div (∑ i, x i) (Ideal.ofBits .f32 0x43000000#32)

/-- The mean square of a row less its mean. -/
def spread (x : Fin 128 → EReal) : EReal :=
  Ideal.div (∑ i, center x i * center x i) (Ideal.ofBits .f32 0x43000000#32)

/-- Layer normalisation. -/
def norm (x g b : Fin 128 → EReal) (j : Fin 128) : EReal :=
  Ideal.div (center x j) (Ideal.sqrt (spread x + Ideal.ofBits .f32 0x3727C5AC#32)) * g j + b j

/-- The encoded query of a state. -/
def query (s : Fin 544 → EReal) (W1 : Fin 544 → Fin 256 → EReal) (b1 : Fin 256 → EReal) (W2 : Fin 256 → Fin 128 → EReal)
    (b2 g b : Fin 128 → EReal) : Fin 128 → EReal :=
  norm (dense (pos (dense s W1 b1)) W2 b2) g b

/-- The value network's answer for a state. -/
def worth (s : Fin 544 → EReal) (V1 : Fin 544 → Fin 256 → EReal) (c1 : Fin 256 → EReal) (V2 : Fin 256 → Fin 128 → EReal)
    (c2 : Fin 128 → EReal) (V3 : Fin 128 → Fin 1 → EReal) (c3 : Fin 1 → EReal) : EReal :=
  dense (pos (dense (pos (dense s V1 c1)) V2 c2)) V3 c3 0

/-- The squared distance of a query from a key, in the expanded form. -/
def dist (q k : Fin 128 → EReal) : EReal :=
  (∑ i, q i * q i + ∑ i, k i * k i) - Ideal.ofBits .f32 0x40000000#32 * ∑ i, q i * k i

/-- The encoded query of row `a`, from the arrays. -/
def queryOf (x0 : FVec Ideal ⟨2, ![1024, 544]⟩ .f32) (x1 : FVec Ideal ⟨2, ![544, 256]⟩ .f32) (x2 : FVec Ideal ⟨1, ![256]⟩ .f32)
    (x3 : FVec Ideal ⟨2, ![256, 128]⟩ .f32) (x4 x5 x6 : FVec Ideal ⟨1, ![128]⟩ .f32) (a : Fin 1024) : Fin 128 → EReal :=
  query (mat x0 a) (mat x1) (vec x2) (mat x3) (vec x4) (vec x5) (vec x6)

/-- The value network's answer for row `a`, from the arrays. -/
def worthOf (x0 : FVec Ideal ⟨2, ![1024, 544]⟩ .f32) (x9 : FVec Ideal ⟨2, ![544, 256]⟩ .f32) (x10 : FVec Ideal ⟨1, ![256]⟩ .f32)
    (x11 : FVec Ideal ⟨2, ![256, 128]⟩ .f32) (x12 : FVec Ideal ⟨1, ![128]⟩ .f32) (x13 : FVec Ideal ⟨2, ![128, 1]⟩ .f32)
    (x14 : FVec Ideal ⟨1, ![1]⟩ .f32) (a : Fin 1024) : EReal :=
  worth (mat x0 a) (mat x9) (vec x10) (mat x11) (vec x12) (mat x13) (vec x14)

/-- The weight of an element at distance `d`. -/
def weight (d : EReal) : EReal := Ideal.div 1 (d + Ideal.ofBits .f32 0x33D6BF95#32)

/-- The result from a recalled value and the network's. -/
def blend (x y : EReal) : EReal := Ideal.ofBits .f32 0x3F666666#32 * x + Ideal.ofBits .f32 0x3DCCCCCD#32 * y

/-- The position of the `r`-th nearest key. -/
def sel (d : Fin 50000 → EReal) (r : Fin 50) : Fin 50000 := sortedFrom (Select.byValue d) (r.castLE (by decide))

/-- The value recalled for a query: the 50 nearest keys' values, weighted, the weights divided by their sum. -/
def recalled (d v : Fin 50000 → EReal) : EReal :=
  ∑ r, Ideal.div (weight (d (sel d r))) (∑ r, weight (d (sel d r))) * v (sel d r)

/-- What is summed over the elements of rank below 50. -/
def nearest {n : ℕ} (d f : Fin n → EReal) : EReal :=
  ∑ a ∈ Finset.univ.filter (fun a => Select.rank (Select.place d) a < 50), f a

/-- The distance of a query's 50th nearest key. -/
def reach (d : Fin 50000 → EReal) : EReal := d (sel d 49)

/-- Chunk `c` of 128 distances, +∞ past the last. -/
def chunk (d : Fin 50000 → EReal) (c : Fin 392) (l : Fin 128) : EReal :=
  if h : 128 * (c : ℕ) + l < 50000 then d ⟨128 * c + l, h⟩ else ⊤

/-- The distance of a query from the key whose entries are all 1e4. -/
def farAway (q : Fin 128 → EReal) : EReal :=
  (∑ i, q i * q i + Ideal.ofBits .f32 0x503EBC20#32) - Ideal.ofBits .f32 0x40000000#32 * ∑ i, q i * Ideal.ofBits .f32 0x461C4000#32

/-- What the precondition says of one query: its 50th distance is finite and smaller than that of a far key; and in each chunk
    of 128 keys at most four are as near, their distances all different. -/
structure Separated (q : Fin 128 → EReal) (d : Fin 50000 → EReal) : Prop where
  finite : max (reach d) (-reach d) < Ideal.ofBits .f32 0x7F61B1E6#32
  far : reach d < farAway q
  four : ∀ c, reach d < chunk d c (sortedFrom (Select.byValue (chunk d c)) ⟨4, by decide⟩)
  apart : ∀ c (r : ℕ) (h : r < 4), chunk d c (sortedFrom (Select.byValue (chunk d c)) ⟨r, by omega⟩) <
      chunk d c (sortedFrom (Select.byValue (chunk d c)) ⟨r + 1, by omega⟩) ∨
    reach d < chunk d c (sortedFrom (Select.byValue (chunk d c)) ⟨r, by omega⟩)

/-! ## The constants -/

/-- What is used of the constants: where they stand, and a few of their values. -/
theorem lit_count : Ideal.ofBits .f32 0x43000000#32 = ((128 : ℝ) : EReal) := by
  simp [Ideal.ofBits, Ideal.ieee, ← EReal.coe_mul]; norm_num

theorem lit_two : Ideal.ofBits .f32 0x40000000#32 = ((2 : ℝ) : EReal) := by
  simp [Ideal.ofBits, Ideal.ieee, ← EReal.coe_mul]; norm_num

theorem lit_key : Ideal.ofBits .f32 0x461C4000#32 = ((10000 : ℝ) : EReal) := by
  simp [Ideal.ofBits, Ideal.ieee, ← EReal.coe_mul]; norm_num

theorem lit_keySq : Ideal.ofBits .f32 0x503EBC20#32 = ((12800000000 : ℝ) : EReal) := by
  simp [Ideal.ofBits, Ideal.ieee, ← EReal.coe_mul]; norm_num

theorem lit_top : Ideal.ofBits .f32 0x7F800000#32 = ⊤ := by
  simp [Ideal.ofBits, Ideal.ieee]

theorem lit_eps : ∃ e : ℝ, 0 < e ∧ Ideal.ofBits .f32 0x33D6BF95#32 = (e : EReal) := by
  refine ⟨14073749 * 2 ^ (-47 : ℤ), by positivity, ?_⟩
  simp [Ideal.ofBits, Ideal.ieee, ← EReal.coe_mul]

theorem lit_eps5 : ∃ e : ℝ, 0 < e ∧ Ideal.ofBits .f32 0x3727C5AC#32 = (e : EReal) := by
  refine ⟨10995116 * 2 ^ (-40 : ℤ), by positivity, ?_⟩
  simp [Ideal.ofBits, Ideal.ieee, ← EReal.coe_mul]

theorem lit_big : ∃ e : ℝ, 0 < e ∧ Ideal.ofBits .f32 0x7F61B1E6#32 = (e : EReal) := by
  refine ⟨14791142 * 2 ^ (104 : ℤ), by positivity, ?_⟩
  simp [Ideal.ofBits, Ideal.ieee, ← EReal.coe_mul]

end Cert.Proof
-- ==== Proof.KPay.lean ====
/- Hand-written, untrusted: the kernel's stored blocks of its first two launches, read at an entry. -/
module

public import proofs.«01_k».proof.Proof.Gen.KernelIdeal.Skeleton
public import proofs.«01_k».proof.Proof.Spec

@[expose] public section

noncomputable section

namespace Cert.KernelIdeal.Gen

open Idealize.ShloMosaic Idealize.SL.Sem Cert.Proof Cert.Proof.Select

/-! ## The encoder and the value network -/

/-- Multiplying by the reciprocal root is dividing by the root, at a positive number. -/
theorem mul_rsqrt (x y : EReal) (hy : 0 < y) : x * Ideal.rsqrt y = Ideal.div x (Ideal.sqrt y) := by
  induction y with
  | bot => exact absurd hy (by simp)
  | top =>
    have e1 : Ideal.rsqrt ⊤ = 0 := rfl
    have e2 : Ideal.sqrt ⊤ = ⊤ := rfl
    rw [e1, e2]
    simp [Ideal.div]
  | coe r =>
    have hr : 0 < r := by exact_mod_cast hy
    have hs : Real.sqrt r ≠ 0 := (Real.sqrt_pos.mpr hr).ne'
    have e1 : Ideal.rsqrt (r : EReal) = ((Real.sqrt r)⁻¹ : ℝ) := by
      show (if r < 0 then ⊥ else if r = 0 then ⊤ else (((Real.sqrt r)⁻¹ : ℝ) : EReal)) = _
      rw [if_neg hr.not_gt, if_neg hr.ne']
    have e2 : Ideal.sqrt (r : EReal) = (Real.sqrt r : ℝ) := by
      show (if r < 0 then ⊥ else ((Real.sqrt r : ℝ) : EReal)) = _
      rw [if_neg hr.not_gt]
    rw [e1, e2, Ideal.div, if_neg (by exact_mod_cast hs), EReal.coe_inv]

theorem mul_self_nonneg' (x : EReal) : 0 ≤ x * x := by
  rcases le_total 0 x with h | h
  · exact mul_nonneg h h
  · rw [← neg_mul_neg]
    have : 0 ≤ -x := by rwa [EReal.le_neg, neg_zero]
    exact mul_nonneg this this

theorem spread_nonneg (x : Fin 128 → EReal) : 0 ≤ spread x := by
  unfold spread Ideal.div
  rw [lit_count, if_neg (by norm_num)]
  refine mul_nonneg (Finset.sum_nonneg fun i _ => mul_self_nonneg' _) ?_
  rw [← EReal.coe_inv]
  exact_mod_cast (by norm_num : (0 : ℝ) ≤ 128⁻¹)

theorem spread_eps_pos (x : Fin 128 → EReal) : 0 < spread x + Ideal.ofBits .f32 0x3727C5AC#32 := by
  obtain ⟨e, he, h⟩ := lit_eps5
  rw [h]
  calc (0 : EReal) < (e : EReal) := by exact_mod_cast he
    _ = 0 + (e : EReal) := (zero_add _).symm
    _ ≤ _ := add_le_add_left (spread_nonneg x) _

/-- The encoder's block. -/
theorem encoder_apply (x0 : Vec Ideal S256x544 .f32) (x1 : Vec Ideal S544x256 .f32) (x2 : Vec Ideal S1x256 .f32)
    (x3 : Vec Ideal S256x128 .f32) (x4 x5 x6 : Vec Ideal S1x128 .f32) (a : Fin 256) (j : Fin 128) :
    k0_pay1 (k0_pay3 x0 x1 x2 x3 x4 x5) (k0_pay4 x6) (ix2 a j) =
      query (mat x0 a) (mat x1) (mat x2 0) (mat x3) (mat x4 0) (mat x5 0) (mat x6 0) j := by
  have e : k0_pay1 (k0_pay3 x0 x1 x2 x3 x4 x5) (k0_pay4 x6) (ix2 a j) =
      center (dense (pos (dense (mat x0 a) (mat x1) (mat x2 0))) (mat x3) (mat x4 0)) j *
        Ideal.rsqrt (spread (dense (pos (dense (mat x0 a) (mat x1) (mat x2 0))) (mat x3) (mat x4 0)) + Ideal.ofBits .f32 0x3727C5AC#32) *
          mat x5 0 j + mat x6 0 j := by
    pointwise [k0_pay1, k0_pay3, k0_pay4]
    rfl
  rw [e, mul_rsqrt _ _ (spread_eps_pos _)]
  rfl

/-- The value network's block. -/
theorem network_apply (x0 : Vec Ideal S256x544 .f32) (x7 : Vec Ideal S544x256 .f32) (x8 : Vec Ideal S1x256 .f32)
    (x9 : Vec Ideal S256x128 .f32) (x10 x11 : Vec Ideal S1x128 .f32) (x12 : Vec Ideal S1x1 .f32) (a : Fin 256) :
    k0_pay2 x0 x7 x8 x9 x10 x11 x12 (ix2 a 0) =
      worth (mat x0 a) (mat x7) (mat x8 0) (mat x9) (mat x10 0) (fun i _ => mat x11 0 i) (fun _ => mat x12 0 0) := by
  pointwise [k0_pay2]
  rfl

/-! ## Four rounds on each chunk -/

/-- The smallest of a row, as the reduction computes it. -/
theorem fold_min {n : ℕ} (f : Fin n → EReal) :
    Finset.fold min (Ideal.ofBits .f32 0x7F800000#32) f Finset.univ = ⨅ i, f i := by
  rw [lit_top]
  exact Finset.inf_univ_eq_iInf f

section Chunks

variable (q : Vec Ideal S128x128 .f32) (k : Vec Ideal S7168x128 .f32) (v : Vec Ideal S1x7168 .f32) (o : Vec Ideal S1x128 .f32)
  (ho : ∀ i, mat o 0 i = 1) (a : Fin 128) (c : Fin 56)

/-- The key at place `l` of chunk `c` of the block. -/
def at_ (c : Fin 56) (l : Fin 128) : Fin 7168 := ⟨(c : ℕ) * 128 + l, by omega⟩

/-- The distances of a chunk. -/
def gap (a : Fin 128) (c : Fin 56) (l : Fin 128) : EReal := Cert.Proof.dist (mat q a) (mat k (at_ c l))

/-- The value that later rounds overwrite with. -/
abbrev big : EReal := Ideal.ofBits .f32 0x7F61B1E6#32

include ho in
theorem gap_apply (l : Fin 128) : k1_pay8 q k o (ix3 a c l) = rowAt (gap q k a c) big 0 l := by
  pointwise [k1_pay8]
  refine congrArg₂ (fun x y : EReal => x - y) (congrArg (fun y : EReal => _ + y) ?_) rfl
  refine Finset.sum_congr rfl fun x _ => ?_
  rw [show o (ix2 0 x) = (1 : EReal) from ho x, one_mul]
  rfl

include ho in
theorem least0 : k1_pay10 q k o (ix3 a c 0) = least (gap q k a c) big 0 := by
  pointwise [k1_pay10]
  rw [fold_min]
  simp only [gap_apply q k o ho]
  rfl

include ho in
theorem row1 (l : Fin 128) : k1_pay13 q k o (ix3 a c l) = rowAt (gap q k a c) big 1 l := by
  pointwise [k1_pay13, k1_pay11]
  simp only [gap_apply q k o ho, least0 q k o ho]
  rfl

include ho in
theorem least1 : k1_pay14 q k o (ix3 a c 0) = least (gap q k a c) big 1 := by
  pointwise [k1_pay14]
  rw [fold_min]
  simp only [row1 q k o ho]
  rfl

include ho in
theorem row2 (l : Fin 128) : k1_pay1 (k1_pay13 q k o) (k1_pay15 q k o) (ix3 a c l) = rowAt (gap q k a c) big 2 l := by
  pointwise [k1_pay1, k1_pay15]
  simp only [row1 q k o ho, least1 q k o ho]
  rfl

include ho in
theorem least2 : k1_pay2 (k1_pay13 q k o) (k1_pay15 q k o) (ix3 a c 0) = least (gap q k a c) big 2 := by
  pointwise [k1_pay2]
  rw [fold_min]
  simp only [row2 q k o ho]
  rfl

include ho in
theorem row3 (l : Fin 128) : k1_pay4 (k1_pay13 q k o) (k1_pay15 q k o) (ix3 a c l) = rowAt (gap q k a c) big 3 l := by
  pointwise [k1_pay4, k1_pay3]
  simp only [row2 q k o ho, least2 q k o ho]
  rfl

include ho in
theorem least3 : k1_pay5 (k1_pay13 q k o) (k1_pay15 q k o) (ix3 a c 0) = least (gap q k a c) big 3 := by
  pointwise [k1_pay5]
  rw [fold_min]
  simp only [row3 q k o ho]
  rfl

/-- The values of a chunk. -/
def held (c : Fin 56) (l : Fin 128) : EReal := mat v 0 (at_ c l)

include ho in
theorem taken0 : k1_pay12 q k o v (ix3 a c 0) = taken (gap q k a c) (held v c) big 0 := by
  pointwise [k1_pay12, k1_pay11, k1_pay9]
  simp only [gap_apply q k o ho, least0 q k o ho]
  rfl

/-- The distances the second launch keeps: four a chunk, then +∞. -/
theorem kept_apply (s : Fin 256) (ho : ∀ i, mat o 0 i = 1) :
    k1_pay6 (k1_pay10 q k o) (k1_pay13 q k o) (k1_pay14 q k o) (k1_pay15 q k o) (ix2 a s) =
      if h : (s : ℕ) < 224 then least (gap q k a ⟨s / 4, by omega⟩) big (s % 4) else ⊤ := by
  pointwise [k1_pay6]
  simp only [least0 q k o ho, least1 q k o ho, least2 q k o ho, least3 q k o ho, lit_top]
  by_cases h : (s : ℕ) < 224
  · rw [dif_pos h, dif_pos h]
    have h4 : (s : ℕ) % 4 = 0 ∨ (s : ℕ) % 4 = 1 ∨ (s : ℕ) % 4 = 2 ∨ (s : ℕ) % 4 = 3 := by omega
    rcases h4 with e | e | e | e <;> simp [e]
    exacts [least0 q k o ho a _, least1 q k o ho a _, least2 q k o ho a _, least3 q k o ho a _]
  · rw [dif_neg h, dif_neg h]

/-- The values the second launch keeps: four a chunk, then zero. -/
theorem keptValue_apply (s : Fin 256) (ho : ∀ i, mat o 0 i = 1) :
    k1_pay7 (k1_pay9 v) (k1_pay12 q k o v) (k1_pay13 q k o) (k1_pay15 q k o) (k1_pay16 q k o v) (ix2 a s) =
      if h : (s : ℕ) < 224 then taken (gap q k a ⟨s / 4, by omega⟩) (held v ⟨s / 4, by omega⟩) big (s % 4) else 0 := by
  pointwise [k1_pay7, k1_pay16, k1_pay15, k1_pay9, k1_pay3]
  simp only [taken0 q k v o ho, row1 q k o ho, row2 q k o ho, row3 q k o ho, least1 q k o ho, least2 q k o ho, least3 q k o ho]
  by_cases h : (s : ℕ) < 224
  · rw [dif_pos h, dif_pos h]
    have h4 : (s : ℕ) % 4 = 0 ∨ (s : ℕ) % 4 = 1 ∨ (s : ℕ) % 4 = 2 ∨ (s : ℕ) % 4 = 3 := by omega
    rcases h4 with e | e | e | e <;> simp [e]
    · exact taken0 q k v o ho a _
    · simp only [taken, held, at_, mat]
    · have e2 := least2 q k o ho a ⟨s / 4, by omega⟩
      have e1 := row2 q k o ho a ⟨s / 4, by omega⟩
      unfold k1_pay15 at e1 e2
      simp only [taken, held, at_, mat, e1, e2]
    · have e2 := least3 q k o ho a ⟨s / 4, by omega⟩
      have e1 := row3 q k o ho a ⟨s / 4, by omega⟩
      unfold k1_pay15 at e1 e2
      simp only [taken, held, at_, mat, e1, e2]
  · rw [dif_neg h, dif_neg h]

end Chunks

end Cert.KernelIdeal.Gen
-- ==== Proof.Region0.lean ====
/- Hand-written, untrusted: the arrays the first launch leaves, from the arrays it finds. -/
module

public import proofs.«01_k».proof.Proof.Gen.KernelIdeal.Frame
public import Idealize.ShloMosaic.Lib.Pipeline.ValueKit
public import proofs.«01_k».proof.Proof.KPay

@[expose] public section

noncomputable section

namespace Cert.KernelIdeal.Gen

open Idealize.ShloMosaic Idealize.ShloMosaic.TcCoe Idealize.SL.Sem Cert.Proof Cert.Proof.Select

variable (V : (c : Dev nD) → (b : Ref sig .tc) → Buf (Elt Ideal) ((c : Thread nD τ).loc b)) (c : Dev nD)

/-- The encoded queries. -/
def queries : FVec Ideal S1024x128 .f32 := fun i =>
  query (mat (V c main_arg0) (i 0)) (mat (V c main_arg1)) (mat (V c main_v0) 0) (mat (V c main_arg3)) (mat (V c main_v1) 0)
    (mat (V c main_v2) 0) (mat (V c main_v3) 0) (i 1)

/-- The value network's answers. -/
def answers : FVec Ideal S1024x1 .f32 := fun i =>
  worth (mat (V c main_arg0) (i 0)) (mat (V c main_arg9)) (mat (V c main_v4) 0) (mat (V c main_arg11)) (mat (V c main_v5) 0)
    (fun i _ => mat (V c main_v6) 0 i) (fun _ => mat (V c main_v7) 0 0)

theorem index0_0 : ∀ t : Fin grid0.N, win0_0.index t = ![(grid0.coords t 0).val, 0] := by decide +kernel
theorem index0_13 : ∀ t : Fin grid0.N, win0_13.index t = ![(grid0.coords t 0).val, 0] := by decide +kernel
theorem index0_14 : ∀ t : Fin grid0.N, win0_14.index t = ![(grid0.coords t 0).val, 0] := by decide +kernel
theorem index0_1 : ∀ t : Fin grid0.N, win0_1.index t = ![0, 0] := by decide +kernel
theorem index0_2 : ∀ t : Fin grid0.N, win0_2.index t = ![0, 0] := by decide +kernel
theorem index0_3 : ∀ t : Fin grid0.N, win0_3.index t = ![0, 0] := by decide +kernel
theorem index0_4 : ∀ t : Fin grid0.N, win0_4.index t = ![0, 0] := by decide +kernel
theorem index0_5 : ∀ t : Fin grid0.N, win0_5.index t = ![0, 0] := by decide +kernel
theorem index0_6 : ∀ t : Fin grid0.N, win0_6.index t = ![0, 0] := by decide +kernel
theorem index0_7 : ∀ t : Fin grid0.N, win0_7.index t = ![0, 0] := by decide +kernel
theorem index0_8 : ∀ t : Fin grid0.N, win0_8.index t = ![0, 0] := by decide +kernel
theorem index0_9 : ∀ t : Fin grid0.N, win0_9.index t = ![0, 0] := by decide +kernel
theorem index0_10 : ∀ t : Fin grid0.N, win0_10.index t = ![0, 0] := by decide +kernel
theorem index0_11 : ∀ t : Fin grid0.N, win0_11.index t = ![0, 0] := by decide +kernel
theorem index0_12 : ∀ t : Fin grid0.N, win0_12.index t = ![0, 0] := by decide +kernel

/-- The first launch leaves the encoded queries. -/
theorem arr0_13 : (dat0 V c).arrAt 13 cfg0.N = queries V c := by
  refine (dat0 V c).arrAt_eq_of_covers 13 _ (by decide +kernel) fun t hf y => ?_
  blk_simp
  rw [after0_13]
  unfold out0_13
  frame_out
  idx_vars y
  have h0 : mat (iblk0 V c 0 t) y0 = mat (V c main_arg0) (((win0_13.blk t).view.emb (ix2 y0 y1)) 0) := by
    funext k; dsimp only [mat]; blk_ext! [iblk0, index0_0 t, index0_13 t]
  have h1 : mat (iblk0 V c 1 t) = mat (V c main_arg1) := by funext k l; dsimp only [mat]; blk_ext! [iblk0, index0_1 t]
  have h2 : mat (iblk0 V c 2 t) 0 = mat (V c main_v0) 0 := by funext k; dsimp only [mat]; blk_ext! [iblk0, index0_2 t]
  have h3 : mat (iblk0 V c 3 t) = mat (V c main_arg3) := by funext k l; dsimp only [mat]; blk_ext! [iblk0, index0_3 t]
  have h4 : mat (iblk0 V c 4 t) 0 = mat (V c main_v1) 0 := by funext k; dsimp only [mat]; blk_ext! [iblk0, index0_4 t]
  have h5 : mat (iblk0 V c 5 t) 0 = mat (V c main_v2) 0 := by funext k; dsimp only [mat]; blk_ext! [iblk0, index0_5 t]
  have h6 : mat (iblk0 V c 6 t) 0 = mat (V c main_v3) 0 := by funext k; dsimp only [mat]; blk_ext! [iblk0, index0_6 t]
  have hj : ((win0_13.blk t).view.emb (ix2 y0 y1)) 1 = y1 := Fin.ext (by blk_simp [index0_13 t]; try omega)
  refine (encoder_apply _ _ _ _ _ _ _ _ _).trans ?_
  rw [h0, h1, h2, h3, h4, h5, h6]
  exact congrArg (query _ _ _ _ _ _ _) hj.symm

/-- The first launch leaves the value network's answers. -/
theorem arr0_14 : (dat0 V c).arrAt 14 cfg0.N = answers V c := by
  refine (dat0 V c).arrAt_eq_of_covers 14 _ (by decide +kernel) fun t hf y => ?_
  blk_simp
  rw [after0_14]
  unfold out0_14
  frame_out
  idx_vars y
  have h0 : mat (iblk0 V c 0 t) y0 = mat (V c main_arg0) (((win0_14.blk t).view.emb (ix2 y0 y1)) 0) := by
    funext k; dsimp only [mat]; blk_ext! [iblk0, index0_0 t, index0_14 t]
  have h7 : mat (iblk0 V c 7 t) = mat (V c main_arg9) := by funext k l; dsimp only [mat]; blk_ext! [iblk0, index0_7 t]
  have h8 : mat (iblk0 V c 8 t) 0 = mat (V c main_v4) 0 := by funext k; dsimp only [mat]; blk_ext! [iblk0, index0_8 t]
  have h9 : mat (iblk0 V c 9 t) = mat (V c main_arg11) := by funext k l; dsimp only [mat]; blk_ext! [iblk0, index0_9 t]
  have h10 : mat (iblk0 V c 10 t) 0 = mat (V c main_v5) 0 := by funext k; dsimp only [mat]; blk_ext! [iblk0, index0_10 t]
  have h11 : mat (iblk0 V c 11 t) 0 = mat (V c main_v6) 0 := by funext k; dsimp only [mat]; blk_ext! [iblk0, index0_11 t]
  have h12 : mat (iblk0 V c 12 t) 0 = mat (V c main_v7) 0 := by funext k; dsimp only [mat]; blk_ext! [iblk0, index0_12 t]
  have h11' : (fun (i : Fin 128) (_ : Fin 1) => mat (iblk0 V c 11 t) 0 i) = fun i _ => mat (V c main_v6) 0 i :=
    funext fun i => funext fun _ => congrFun h11 i
  have h12' : (fun _ : Fin 1 => mat (iblk0 V c 12 t) 0 0) = fun _ => mat (V c main_v7) 0 0 := funext fun _ => congrFun h12 0
  obtain rfl : y1 = 0 := Subsingleton.elim _ _
  refine (network_apply _ _ _ _ _ _ _ _).trans ?_
  rw [h0, h7, h8, h9, h10, h11', h12']
  rfl

end Cert.KernelIdeal.Gen
-- ==== Proof.Slots.lean ====
/- Hand-written, untrusted: what the second launch keeps of a row of distances, slot by slot: seven groups of 56 chunks, four
   slots a chunk, each group filled up to 256 slots. -/
module

public import proofs.«01_k».proof.Proof.Spec

@[expose] public section

noncomputable section

namespace Cert.Proof

open Idealize.ShloMosaic Select

/-- The place of lane `l` of chunk `c`. -/
def lane (c : Fin 392) (l : Fin 128) : Fin 50176 := ⟨128 * (c : ℕ) + l, by omega⟩

/-- A key's place. -/
def asPlace (a : Fin 50000) : Fin 50176 := ⟨a, by omega⟩

/-- The chunk a slot belongs to. -/
def chunkOf (s : Fin 1792) (h : (s : ℕ) % 256 < 224) : Fin 392 := ⟨56 * ((s : ℕ) / 256) + (s : ℕ) % 256 / 4, by omega⟩

/-- The value that the rounds overwrite with. -/
abbrev sentinel : EReal := Ideal.ofBits .f32 0x7F61B1E6#32

/-- The distance in a slot: its chunk's smallest of the slot's round; +∞ in a filling slot. -/
def slot (D : Fin 50176 → EReal) (s : Fin 1792) : EReal :=
  if h : (s : ℕ) % 256 < 224 then least (fun l => D (lane (chunkOf s h) l)) sentinel ((s : ℕ) % 4) else ⊤

/-- The value in a slot; zero in a filling slot. -/
def slotValue (D v : Fin 50176 → EReal) (s : Fin 1792) : EReal :=
  if h : (s : ℕ) % 256 < 224 then taken (fun l => D (lane (chunkOf s h) l)) (fun l => v (lane (chunkOf s h) l)) sentinel ((s : ℕ) % 4) else 0

end Cert.Proof
-- ==== Proof.Region1.lean ====
/- Hand-written, untrusted: the arrays the second launch leaves, from the arrays it finds. -/
module

public import proofs.«01_k».proof.Proof.Gen.KernelIdeal.Frame
public import Idealize.ShloMosaic.Lib.Pipeline.ValueKit
public import proofs.«01_k».proof.Proof.KPay
public import proofs.«01_k».proof.Proof.Slots

@[expose] public section

noncomputable section

namespace Cert.KernelIdeal.Gen

open Idealize.ShloMosaic Idealize.ShloMosaic.TcCoe Idealize.SL.Sem Cert.Proof Cert.Proof.Select

variable (V : (c : Dev nD) → (b : Ref sig .tc) → Buf (Elt Ideal) ((c : Thread nD τ).loc b)) (c : Dev nD)

/-- The distances of row `i` to all places. -/
def distances (i : Fin 1024) (k : Fin 50176) : EReal := Cert.Proof.dist (mat (V c main_v8_0) i) (mat (V c main_v10) k)

/-- The distances kept. -/
def keptAt : FVec Ideal S1024x1792 .f32 := fun i => slot (distances V c (i 0)) (i 1)

/-- The values kept. -/
def keptValueAt : FVec Ideal S1024x1792 .f32 := fun i => slotValue (distances V c (i 0)) (mat (V c main_v15) 0) (i 1)

theorem index1_0 : ∀ t : Fin grid1.N, win1_0.index t = ![(grid1.coords t 0).val, 0] := by decide +kernel
theorem index1_1 : ∀ t : Fin grid1.N, win1_1.index t = ![(grid1.coords t 1).val, 0] := by decide +kernel
theorem index1_2 : ∀ t : Fin grid1.N, win1_2.index t = ![0, (grid1.coords t 1).val] := by decide +kernel
theorem index1_3 : ∀ t : Fin grid1.N, win1_3.index t = ![0, 0] := by decide +kernel
theorem index1_4 : ∀ t : Fin grid1.N, win1_4.index t = ![(grid1.coords t 0).val, (grid1.coords t 1).val] := by decide +kernel
theorem index1_5 : ∀ t : Fin grid1.N, win1_5.index t = ![(grid1.coords t 0).val, (grid1.coords t 1).val] := by decide +kernel

/-- A key's block is a stretch of the keys. -/
theorem keyRow (t : Fin cfg1.N) (r : Fin 7168) (k : Fin 50176) (h : (k : ℕ) = (grid1.coords t 1).val * 7168 + r) :
    mat (iblk1 V c 1 t) r = mat (V c main_v10) k := by
  funext j; dsimp only [mat]; blk_ext! [iblk1, index1_1 t]

/-- A value's block is a stretch of the values. -/
theorem valueAt (t : Fin cfg1.N) (r : Fin 7168) (k : Fin 50176) (h : (k : ℕ) = (grid1.coords t 1).val * 7168 + r) :
    mat (iblk1 V c 2 t) 0 r = mat (V c main_v15) 0 k := by
  dsimp only [mat]; blk_ext! [iblk1, index1_2 t]

/-- The row of ones is read whole. -/
theorem onesRow (t : Fin cfg1.N) : mat (iblk1 V c 3 t) 0 = mat (V c main_v16) 0 := by
  funext j; dsimp only [mat]; blk_ext! [iblk1, index1_3 t]

/-- A chunk of a block, in the row of all distances. -/
theorem gap_block (t : Fin cfg1.N) (a : Fin 128) (A : Fin 1024) (hA : mat (iblk1 V c 0 t) a = mat (V c main_v8_0) A) (s : Fin 256)
    (S : Fin 1792) (hS : (S : ℕ) = (grid1.coords t 1).val * 256 + s) (h : (s : ℕ) < 224) (h' : (S : ℕ) % 256 < 224) :
    gap (iblk1 V c 0 t) (iblk1 V c 1 t) a ⟨s / 4, by omega⟩ = fun l => distances V c A (lane (chunkOf S h') l) := by
  funext l
  unfold gap distances
  rw [hA, keyRow V c t _ (lane (chunkOf S h') l) (by simp only [lane, chunkOf, at_]; omega)]

/-- The values of a chunk of a block, in the row of all values. -/
theorem held_block (t : Fin cfg1.N) (s : Fin 256) (S : Fin 1792) (hS : (S : ℕ) = (grid1.coords t 1).val * 256 + s)
    (h : (s : ℕ) < 224) (h' : (S : ℕ) % 256 < 224) :
    held (iblk1 V c 2 t) ⟨s / 4, by omega⟩ = fun l => mat (V c main_v15) 0 (lane (chunkOf S h') l) := by
  funext l
  unfold held
  rw [valueAt V c t _ (lane (chunkOf S h') l) (by simp only [lane, chunkOf, at_]; omega)]

variable (ho : ∀ i : Fin 128, mat (V c main_v16) 0 i = 1)

include ho in
/-- The second launch leaves the distances kept. -/
theorem arr1_4 : (dat1 V c).arrAt 4 cfg1.N = keptAt V c := by
  refine (dat1 V c).arrAt_eq_of_covers 4 _ (by decide +kernel) fun t hf y => ?_
  blk_simp
  rw [after1_4]
  unfold_out out1_4
  frame_out
  idx_vars y
  have hA : mat (iblk1 V c 0 t) y0 = mat (V c main_v8_0) (((win1_4.blk t).view.emb (ix2 y0 y1)) 0) := by
    funext k; dsimp only [mat]; blk_ext! [iblk1, index1_0 t, index1_4 t]
  have hS : ((((win1_4.blk t).view.emb (ix2 y0 y1)) 1 : Fin 1792) : ℕ) = (grid1.coords t 1).val * 256 + y1 := by
    blk_simp [index1_4 t]; try omega
  have key : ∀ (A : Fin 1024) (S : Fin 1792), mat (iblk1 V c 0 t) y0 = mat (V c main_v8_0) A →
      (S : ℕ) = (grid1.coords t 1).val * 256 + y1 → _ = slot (distances V c A) S := fun A S hA hS => by
    refine (kept_apply (iblk1 V c 0 t) (iblk1 V c 1 t) (iblk1 V c 3 t) y0 y1 (fun i => (congrFun (onesRow V c t) i).trans (ho i))).trans ?_
    unfold slot
    by_cases h : (y1 : ℕ) < 224
    · rw [dif_pos h, dif_pos (by omega), gap_block V c t y0 A hA y1 S hS h (by omega)]
      exact congrArg (least _ _) (by omega)
    · rw [dif_neg h, dif_neg (by omega)]
  exact key _ _ hA hS

include ho in
/-- The second launch leaves the values kept. -/
theorem arr1_5 : (dat1 V c).arrAt 5 cfg1.N = keptValueAt V c := by
  refine (dat1 V c).arrAt_eq_of_covers 5 _ (by decide +kernel) fun t hf y => ?_
  blk_simp
  rw [after1_5]
  unfold_out out1_5
  frame_out
  idx_vars y
  have hA : mat (iblk1 V c 0 t) y0 = mat (V c main_v8_0) (((win1_5.blk t).view.emb (ix2 y0 y1)) 0) := by
    funext k; dsimp only [mat]; blk_ext! [iblk1, index1_0 t, index1_5 t]
  have hS : ((((win1_5.blk t).view.emb (ix2 y0 y1)) 1 : Fin 1792) : ℕ) = (grid1.coords t 1).val * 256 + y1 := by
    blk_simp [index1_5 t]; try omega
  have key : ∀ (A : Fin 1024) (S : Fin 1792), mat (iblk1 V c 0 t) y0 = mat (V c main_v8_0) A →
      (S : ℕ) = (grid1.coords t 1).val * 256 + y1 → _ = slotValue (distances V c A) (mat (V c main_v15) 0) S := fun A S hA hS => by
    refine (keptValue_apply (iblk1 V c 0 t) (iblk1 V c 1 t) (iblk1 V c 2 t) (iblk1 V c 3 t) y0 y1 (fun i => (congrFun (onesRow V c t) i).trans (ho i))).trans ?_
    unfold slotValue
    by_cases h : (y1 : ℕ) < 224
    · rw [dif_pos h, dif_pos (by omega), gap_block V c t y0 A hA y1 S hS h (by omega), held_block V c t y1 S hS h (by omega)]
      exact congrArg (taken _ _ _) (by omega)
    · rw [dif_neg h, dif_neg (by omega)]
  exact key _ _ hA hS

end Cert.KernelIdeal.Gen
-- ==== Proof.KLoop.lean ====
/- Hand-written, untrusted: the third launch's loop of fifty picks, read at an entry. -/
module

public import proofs.«01_k».proof.Proof.KPay

@[expose] public section

noncomputable section

namespace Cert.KernelIdeal.Gen

open Idealize.ShloMosaic Idealize.SL.Sem Cert.Proof Cert.Proof.Select

/-! ## The smallest of a family of words -/

/-- The signed minimum, as integers. -/
theorem minsi_toInt (x y : BitVec 32) : (IntOp.minsi x y).toInt = min x.toInt y.toInt := by
  unfold IntOp.minsi
  by_cases h : x.slt y
  · rw [if_pos h, min_eq_left (BitVec.slt_iff_toInt_lt.mp h).le]
  · rw [if_neg h, min_eq_right (not_lt.mp fun q => h (BitVec.slt_iff_toInt_lt.mpr q))]

theorem fold_minsi_toInt {n : ℕ} (b : BitVec 32) (f : Fin n → BitVec 32) :
    (Finset.fold IntOp.minsi b f Finset.univ).toInt = Finset.fold min b.toInt (fun x => (f x).toInt) Finset.univ :=
  (Finset.fold_hom (m := BitVec.toInt) minsi_toInt).symm

theorem toInt_place (s : Fin 1792) : (BitVec.ofNat 32 (s : ℕ)).toInt = (s : ℕ) := by
  have := s.2
  rw [BitVec.toInt_ofNat', Int.bmod_eq_of_le (by omega) (by omega)]

/-- The place picked is the first of the smallest value. -/
theorem first_apply (d : FVec Ideal S16x1792 .f32) (a : Fin 16) (s : Fin 1792) :
    k2_pay4 d (ix2 a s) = 1#1 ↔ IsFirst (mat d a) s := by
  pointwise [k2_pay4, k2_pay3]
  rw [fold_min]
  have key : ∀ (P : Fin 1792 → Prop) [DecidablePred P],
      (IntOp.cmpi .eq (BitVec.ofNat 32 (s : ℕ)) (Finset.fold IntOp.minsi 2147483647#32
        (fun x => if P x then BitVec.ofNat 32 (x : ℕ) else 1073741824#32) Finset.univ) = 1#1) ↔
        (P s ∧ ∀ s', P s' → s ≤ s') := by
    intro P _
    have hs := s.2
    have hf : ∀ x : Fin 1792, (if P x then BitVec.ofNat 32 (x : ℕ) else 1073741824#32).toInt = if P x then ((x : ℕ) : ℤ) else 1073741824 := by
      intro x
      by_cases h : P x
      · rw [if_pos h, if_pos h, toInt_place]
      · rw [if_neg h, if_neg h]; rfl
    have hb : ∀ p : Bool, (BitVec.ofBool p = 1#1) ↔ p = true := by decide
    refine (hb _).trans ?_
    rw [beq_iff_eq, ← BitVec.toInt_inj, fold_minsi_toInt, toInt_place]
    simp only [hf]
    have h7 : (2147483647#32 : BitVec 32).toInt = 2147483647 := rfl
    rw [h7, eq_comm, le_antisymm_iff, Finset.fold_min_le, Finset.le_fold_min]
    constructor
    · rintro ⟨h | ⟨x, _, hx⟩, _, h2⟩
      · omega
      · by_cases hp : P x
        · rw [if_pos hp] at hx
          have hle : ∀ s', P s' → s ≤ s' := fun s' hs' => by
            have := h2 s' (Finset.mem_univ _)
            rw [if_pos hs'] at this
            exact Fin.le_def.mpr (by omega)
          have : x = s := le_antisymm (Fin.le_def.mpr (by omega)) (hle x hp)
          exact ⟨this ▸ hp, hle⟩
        · rw [if_neg hp] at hx; omega
    · rintro ⟨hp, hle⟩
      refine ⟨Or.inr ⟨s, Finset.mem_univ _, by rw [if_pos hp]⟩, by omega, fun x _ => ?_⟩
      by_cases hx : P x
      · rw [if_pos hx]; exact_mod_cast Fin.le_def.mp (hle x hx)
      · rw [if_neg hx]; omega
  exact key (fun x => d (ix2 a x) = ⨅ i, d (ix2 a i))

/-! ## What the loop carries -/

/-- One trip: the row with its first smallest value overwritten, the weights added up, the weighted values added up. -/
def trip (v : FVec Ideal S16x1792 .f32) (s : FVec Ideal S16x1792 .f32 × FVec Ideal S16x1 .f32 × FVec Ideal S16x1 .f32) :
    FVec Ideal S16x1792 .f32 × FVec Ideal S16x1 .f32 × FVec Ideal S16x1 .f32 :=
  (k2_pay6 s.1, k2_pay7 s.1 s.2.1, k2_pay8 v s.1 s.2.2)

/-- What is carried after `t` trips. -/
def carried (x v : FVec Ideal S16x1792 .f32) : ℕ → FVec Ideal S16x1792 .f32 × FVec Ideal S16x1 .f32 × FVec Ideal S16x1 .f32
  | 0 => (k2_pay1 (F := Ideal) x, k2_pay2 (F := Ideal), k2_pay2 (F := Ideal))
  | t + 1 => trip v (carried x v t)

/-- The loop is its trips, one after another. -/
theorem fold_carried (x v : FVec Ideal S16x1792 .f32) :
    Scf.fold (n := k2_t1_loop.trips) (fun _ s => trip v s) (k2_pay1 (F := Ideal) x, k2_pay2 (F := Ideal), k2_pay2 (F := Ideal)) = carried x v 50 := by
  have h : ∀ t, (trip v)^[t] (k2_pay1 (F := Ideal) x, k2_pay2 (F := Ideal), k2_pay2 (F := Ideal)) = carried x v t := by
    intro t
    induction t with
    | zero => rfl
    | succ t ih => rw [Function.iterate_succ_apply', ih]; rfl
  rw [Scf.fold_eq, List.foldl_const, List.length_finRange, h]
  rfl

open Classical in
/-- Row `a` of what is carried. -/
theorem carried_apply (x v : FVec Ideal S16x1792 .f32) (a : Fin 16) (t : ℕ) :
    (∀ s, (carried x v t).1 (ix2 a s) = pickRow (mat x a) t s) ∧
    (carried x v t).2.1 (ix2 a 0) = ∑ i ∈ Finset.range t, weight (⨅ s, pickRow (mat x a) i s) ∧
    (carried x v t).2.2 (ix2 a 0) = ∑ i ∈ Finset.range t, weight (⨅ s, pickRow (mat x a) i s) *
      ∑ s, if IsFirst (pickRow (mat x a) i) s then mat v a s else 0 := by
  induction t with
  | zero =>
    refine ⟨fun s => ?_, ?_, ?_⟩
    · show k2_pay1 (F := Ideal) x (ix2 a s) = _
      pointwise [k2_pay1]
      rfl
    · show k2_pay2 (F := Ideal) (ix2 a 0) = _
      pointwise [k2_pay2]
      rfl
    · show k2_pay2 (F := Ideal) (ix2 a 0) = _
      pointwise [k2_pay2]
      rfl
  | succ t ih =>
    obtain ⟨h1, h2, h3⟩ := ih
    have hrow : mat (carried x v t).1 a = pickRow (mat x a) t := funext h1
    have hsel : ∀ (s : Fin 1792) (y z : EReal), Scalar.select (k2_pay4 (carried x v t).1 (ix2 a s)) y z =
        if IsFirst (pickRow (mat x a) t) s then y else z := fun s y z => by
      have := first_apply (carried x v t).1 a s
      rw [hrow] at this
      exact if_congr this rfl rfl
    refine ⟨fun s => ?_, ?_, ?_⟩
    · simp only [carried, trip]
      pointwise [k2_pay6]
      rw [hsel, lit_top, h1]
      rfl
    · simp only [carried, trip]
      pointwise [k2_pay7, k2_pay5, k2_pay3]
      rw [fold_min, h2, Finset.sum_range_succ]
      simp only [h1]
      rfl
    · simp only [carried, trip]
      pointwise [k2_pay8, k2_pay5, k2_pay3]
      rw [fold_min, h3, Finset.sum_range_succ]
      simp only [h1, hsel]
      rfl

/-- Row `a` of the third launch's block, where the fifty smallest distances are not +∞: the weighted values of the fifty nearest
    slots over their weights, blended with the network's value. -/
theorem final_apply (x v : FVec Ideal S16x1792 .f32) (w : FVec Ideal S16x1 .f32) (a : Fin 16) (p : ℕ → Fin 1792)
    (hp : ∀ t < 50, rank (place (mat x a)) (p t) = t) (hfin : ∀ t < 50, mat x a (p t) < ⊤) :
    k2_pay9 (carried x v 50).2.1 (carried x v 50).2.2 w (ix2 a 0) =
      blend (Ideal.div (nearest (mat x a) fun s => weight (mat x a s) * mat v a s) (nearest (mat x a) fun s => weight (mat x a s)))
        (w (ix2 a 0)) := by
  classical
  obtain ⟨-, h2, h3⟩ := carried_apply x v a 50
  have hpick := fun t ht => (pick_state (mat x a) 50 p hp hfin t (le_of_lt ht)).2 ht
  have e2 : (carried x v 50).2.1 (ix2 a 0) = nearest (mat x a) fun s => weight (mat x a s) := by
    rw [h2, nearest, ← sum_first (place (mat x a)) (place_injective _) 50 (fun t => p t) (fun t => hp t t.2), ← Fin.sum_univ_eq_sum_range]
    exact Finset.sum_congr rfl fun t _ => by rw [(hpick t t.2).1]
  have e3 : (carried x v 50).2.2 (ix2 a 0) = nearest (mat x a) fun s => weight (mat x a s) * mat v a s := by
    rw [h3, nearest, ← sum_first (place (mat x a)) (place_injective _) 50 (fun t => p t) (fun t => hp t t.2), ← Fin.sum_univ_eq_sum_range]
    refine Finset.sum_congr rfl fun t _ => ?_
    rw [(hpick t t.2).1]
    have e : (∑ s, if IsFirst (pickRow (mat x a) t) s then mat v a s else 0) = mat v a (p t) := by
      simp only [(hpick t t.2).2]
      rw [Finset.sum_ite_eq' Finset.univ, if_pos (Finset.mem_univ _)]
    rw [e]
  pointwise [k2_pay9]
  rw [e2, e3]
  rfl

end Cert.KernelIdeal.Gen
-- ==== Proof.Region2.lean ====
/- Hand-written, untrusted: the array the third launch leaves, from the arrays it finds. -/
module

public import proofs.«01_k».proof.Proof.Gen.KernelIdeal.Frame
public import Idealize.ShloMosaic.Lib.Pipeline.ValueKit
public import proofs.«01_k».proof.Proof.KLoop

@[expose] public section

noncomputable section

namespace Cert.KernelIdeal.Gen

open Idealize.ShloMosaic Idealize.ShloMosaic.TcCoe Idealize.SL.Sem Cert.Proof Cert.Proof.Select

variable (V : (c : Dev nD) → (b : Ref sig .tc) → Buf (Elt Ideal) ((c : Thread nD τ).loc b)) (c : Dev nD)

/-- The blended results. -/
def results : FVec Ideal S1024x1 .f32 := fun i =>
  blend (Ideal.div (nearest (mat (V c main_v17_0) (i 0)) fun s => weight (mat (V c main_v17_0) (i 0) s) * mat (V c main_v17_1) (i 0) s)
      (nearest (mat (V c main_v17_0) (i 0)) fun s => weight (mat (V c main_v17_0) (i 0) s)))
    (mat (V c main_v8_1) (i 0) 0)

theorem index2_0 : ∀ t : Fin grid2.N, win2_0.index t = ![(grid2.coords t 0).val, 0] := by decide +kernel
theorem index2_1 : ∀ t : Fin grid2.N, win2_1.index t = ![(grid2.coords t 0).val, 0] := by decide +kernel
theorem index2_2 : ∀ t : Fin grid2.N, win2_2.index t = ![(grid2.coords t 0).val, 0] := by decide +kernel
theorem index2_3 : ∀ t : Fin grid2.N, win2_3.index t = ![(grid2.coords t 0).val, 0] := by decide +kernel

/-- The third launch leaves the blended results, where the fifty first slots of each row are not +∞. -/
theorem arr2_3 (hfin : ∀ (a : Fin 1024) (s : Fin 1792), rank (place (mat (V c main_v17_0) a)) s < 50 → mat (V c main_v17_0) a s < ⊤) :
    (dat2 V c).arrAt 3 cfg2.N = results V c := by
  refine (dat2 V c).arrAt_eq_of_covers 3 _ (by decide +kernel) fun t' hf y => ?_
  blk_simp
  rw [after2_3]
  unfold outsAt2 out2_A_3 kernelRun2_A
  frame_out
  idx_vars y
  obtain rfl : y1 = 0 := Subsingleton.elim _ _
  have h0 : mat (iblk2 V c 0 t') y0 = mat (V c main_v17_0) (((win2_3.blk t').view.emb (ix2 y0 (0 : Fin 1))) 0) := by
    funext k; dsimp only [mat]; blk_ext! [iblk2, index2_0 t', index2_3 t']
  have h1 : mat (iblk2 V c 1 t') y0 = mat (V c main_v17_1) (((win2_3.blk t').view.emb (ix2 y0 (0 : Fin 1))) 0) := by
    funext k; dsimp only [mat]; blk_ext! [iblk2, index2_1 t', index2_3 t']
  have h2 : mat (iblk2 V c 2 t') y0 0 = mat (V c main_v8_1) (((win2_3.blk t').view.emb (ix2 y0 (0 : Fin 1))) 0) 0 := by
    dsimp only [mat]; blk_ext! [iblk2, index2_2 t', index2_3 t']
  have hp : ∀ t : ℕ, ∃ s : Fin 1792, t < 50 → rank (place (mat (iblk2 V c 0 t') y0)) s = t := fun r => by
    by_cases hr : r < 50
    · obtain ⟨s, hs⟩ := exists_rank (place (mat (iblk2 V c 0 t') y0)) (place_injective _) r (by rw [Fintype.card_fin]; omega)
      exact ⟨s, fun _ => hs⟩
    · exact ⟨0, fun q => absurd q hr⟩
  choose p hp using hp
  have e := final_apply (iblk2 V c 0 t') (iblk2 V c 1 t') (iblk2 V c 2 t') y0 p hp (fun r hr => by
    have q := hp r hr
    rw [h0] at q ⊢
    exact hfin _ _ (by rw [q]; exact hr))
  rw [← fold_carried] at e
  refine Eq.trans ?_ (e.trans ?_)
  · rfl
  · rw [h0, h1, show iblk2 V c 2 t' (ix2 y0 0) = _ from h2]
    rfl

end Cert.KernelIdeal.Gen
-- ==== Proof.Transfer.lean ====
/- Hand-written, untrusted: under `Separated`, the slots kept by the second launch hold the nearest keys, in their order; so what
   is summed over the fifty nearest slots is what is summed over the fifty nearest keys. -/
module

public import proofs.«01_k».proof.Proof.Slots

@[expose] public section

noncomputable section

namespace Cert.Proof

open Idealize.ShloMosaic Select

/-- A sorted list of places has its values in order. -/
theorem sorted_mono {n : ℕ} (x : Fin n → EReal) {i j : Fin n} (h : i ≤ j) :
    x (sortedFrom (byValue x) i) ≤ x (sortedFrom (byValue x) j) := by
  rcases h.lt_or_eq with h | rfl
  · rcases (place_lt x).mp (sorted_place x i j h) with q | q
    · exact q.le
    · exact q.1.le
  · exact le_rfl

theorem sorted_bij {n : ℕ} (x : Fin n → EReal) : Function.Bijective (sortedFrom (byValue x)) :=
  Finite.injective_iff_bijective.mp (sortedFrom_injective _)

section Chunks

variable {q : Fin 128 → EReal} {d : Fin 50000 → EReal} (hs : Separated q d)

include hs in
/-- A near key is among the first four of its chunk. -/
theorem near_place (c : Fin 392) (l : Fin 128) (h : chunk d c l ≤ reach d) :
    ∃ i : Fin 4, sortedFrom (byValue (chunk d c)) ⟨i, by omega⟩ = l := by
  obtain ⟨i, rfl⟩ := (sorted_bij (chunk d c)).2 l
  have hi : (i : ℕ) < 4 := by
    by_contra q
    exact absurd (hs.four c) (not_lt.mpr ((sorted_mono _ (Fin.le_def.mpr (not_lt.mp q))).trans h))
  exact ⟨⟨i, hi⟩, rfl⟩

include hs in
/-- Near keys of a chunk are at different distances. -/
theorem near_inj (c : Fin 392) (l l' : Fin 128) (h : chunk d c l ≤ reach d) (e : chunk d c l = chunk d c l') : l = l' := by
  have hlt : ∀ i j : Fin 4, i < j → chunk d c (sortedFrom (byValue (chunk d c)) ⟨i, by omega⟩) ≤ reach d →
      chunk d c (sortedFrom (byValue (chunk d c)) ⟨i, by omega⟩) < chunk d c (sortedFrom (byValue (chunk d c)) ⟨j, by omega⟩) := by
    intro i j hij h
    rcases hs.apart c i i.2 with q | q
    · exact q.trans_le (sorted_mono _ (Fin.le_def.mpr (by have := Fin.lt_def.mp hij; exact this)))
    · exact absurd h (not_le.mpr q)
  obtain ⟨i, rfl⟩ := near_place hs c l h
  obtain ⟨j, rfl⟩ := near_place hs c l' (e ▸ h)
  rcases lt_trichotomy i j with q | rfl | q
  · exact absurd e (hlt i j q h).ne
  · rfl
  · exact absurd e (hlt j i q (e ▸ h)).ne'

variable {D : Fin 50176 → EReal} (hD : ∀ a : Fin 50000, D (asPlace a) = d a)
  (hpad : ∀ k : Fin 50176, 50000 ≤ (k : ℕ) → D k = farAway q)

/-- The distances of a chunk, the filling keys' among them. -/
abbrev laneRow (D : Fin 50176 → EReal) (c : Fin 392) (l : Fin 128) : EReal := D (lane c l)

include hs hD hpad in
/-- A near place is a key's. -/
theorem near_lane (c : Fin 392) (l : Fin 128) (h : laneRow D c l ≤ reach d) :
    ∃ hlt : 128 * (c : ℕ) + l < 50000, laneRow D c l = d ⟨128 * c + l, hlt⟩ ∧ chunk d c l = laneRow D c l := by
  by_cases hlt : 128 * (c : ℕ) + l < 50000
  · have e : laneRow D c l = d ⟨128 * c + l, hlt⟩ := hD ⟨128 * c + l, hlt⟩
    exact ⟨hlt, e, by rw [e]; exact dif_pos hlt⟩
  · exact absurd (hpad (lane c l) (by simpa [lane] using hlt) ▸ h) (not_le.mpr hs.far)

include hs hD hpad in
theorem lane_strict (c : Fin 392) (i j : Fin 128) (hij : i < j)
    (h : laneRow D c (sortedFrom (byValue (laneRow D c)) i) ≤ reach d) :
    laneRow D c (sortedFrom (byValue (laneRow D c)) i) < laneRow D c (sortedFrom (byValue (laneRow D c)) j) := by
  refine lt_of_le_of_ne (sorted_mono _ hij.le) fun e => ?_
  obtain ⟨_, _, e1⟩ := near_lane hs hD hpad c _ h
  obtain ⟨_, _, e2⟩ := near_lane hs hD hpad c _ (e ▸ h)
  exact hij.ne (sortedFrom_injective _ (near_inj hs c _ _ (e1.trans_le h) (by rw [e1, e2, e])))

include hs hD hpad in
theorem lane_four (c : Fin 392) (i : Fin 128) (h : laneRow D c (sortedFrom (byValue (laneRow D c)) i) ≤ reach d) : (i : ℕ) < 4 := by
  by_contra hi
  have hk : ∀ k : Fin 5, ∃ i : Fin 4, sortedFrom (byValue (chunk d c)) ⟨i, by omega⟩ =
      sortedFrom (byValue (laneRow D c)) ⟨k, by omega⟩ := fun k => by
    have hle := (sorted_mono (laneRow D c) (i := ⟨k, by omega⟩) (j := i) (Fin.le_def.mpr (by have := k.2; simp only; omega))).trans h
    obtain ⟨_, _, e⟩ := near_lane hs hD hpad c _ hle
    exact near_place hs c _ (e.trans_le hle)
  choose f hf using hk
  obtain ⟨x, y, hne, hxy⟩ := Fintype.exists_ne_map_eq_of_card_lt f (by simp)
  have e := hf x
  rw [hxy, hf y] at e
  exact hne (Fin.ext (Fin.mk.inj_iff.mp (sortedFrom_injective _ e)).symm)

include hs in
theorem reach_lt_sentinel : reach d < sentinel := (le_max_left _ _).trans_lt hs.finite

include hs hD hpad in
/-- A slot whose round still finds a near key holds that key's distance and value. -/
theorem slot_near (v' : Fin 50176 → EReal) (s : Fin 1792) (h : (s : ℕ) % 256 < 224)
    (hn : laneRow D (chunkOf s h) (sortedFrom (byValue (laneRow D (chunkOf s h))) ⟨(s : ℕ) % 4, by omega⟩) ≤ reach d) :
    slot D s = laneRow D (chunkOf s h) (sortedFrom (byValue (laneRow D (chunkOf s h))) ⟨(s : ℕ) % 4, by omega⟩) ∧
    slotValue D v' s = v' (lane (chunkOf s h) (sortedFrom (byValue (laneRow D (chunkOf s h))) ⟨(s : ℕ) % 4, by omega⟩)) := by
  have key := round_near (laneRow D (chunkOf s h)) (fun l => v' (lane (chunkOf s h) l)) sentinel (reach d) (reach_lt_sentinel hs) _
    (sorted_bij _) (fun _ _ => sorted_mono _) 4 (fun i j _ hij hi => lane_strict hs hD hpad _ i j hij hi) ((s : ℕ) % 4) (by omega) (by omega) hn
  exact ⟨(dif_pos h).trans key.1, (dif_pos h).trans key.2⟩

include hs hD hpad in
/-- A near slot is one whose round still finds a near key. -/
theorem near_slot (s : Fin 1792) (hn : slot D s ≤ reach d) : ∃ h : (s : ℕ) % 256 < 224,
    laneRow D (chunkOf s h) (sortedFrom (byValue (laneRow D (chunkOf s h))) ⟨(s : ℕ) % 4, by omega⟩) ≤ reach d := by
  by_cases h : (s : ℕ) % 256 < 224
  · refine ⟨h, not_lt.mp fun q => ?_⟩
    have key := round_far (laneRow D (chunkOf s h)) sentinel (reach d) (reach_lt_sentinel hs) _
      (sorted_bij _) (fun _ _ => sorted_mono _) 4 (fun i j _ hij hi => lane_strict hs hD hpad _ i j hij hi) ((s : ℕ) % 4) (by omega) (by omega) q
    rw [slot, dif_pos h] at hn
    exact absurd hn (not_le.mpr key)
  · rw [slot, dif_neg h] at hn
    exact absurd ((reach_lt_sentinel hs).trans_le (le_top.trans hn)) (lt_irrefl _)

include hs hD hpad in
/-- Each near key has its slot. -/
theorem slot_of (a : Fin 50000) : ∃ s : Fin 1792, d a ≤ reach d → ∃ r : Fin 128, (r : ℕ) < 4 ∧
    (s : ℕ) = 256 * ((a : ℕ) / 128 / 56) + 4 * ((a : ℕ) / 128 % 56) + r ∧
    lane ⟨(a : ℕ) / 128, by omega⟩ (sortedFrom (byValue (laneRow D ⟨(a : ℕ) / 128, by omega⟩)) r) = asPlace a := by
  by_cases hn : d a ≤ reach d
  · obtain ⟨r, hr⟩ := (sorted_bij (laneRow D ⟨(a : ℕ) / 128, by omega⟩)).2 ⟨(a : ℕ) % 128, by omega⟩
    have e : lane ⟨(a : ℕ) / 128, by omega⟩ ⟨(a : ℕ) % 128, by omega⟩ = asPlace a :=
      Fin.ext (by simp only [lane, asPlace]; omega)
    have h4 := lane_four hs hD hpad ⟨(a : ℕ) / 128, by omega⟩ r (by rw [hr]; show D _ ≤ _; rw [e, hD]; exact hn)
    exact ⟨⟨256 * ((a : ℕ) / 128 / 56) + 4 * ((a : ℕ) / 128 % 56) + r, by omega⟩, fun _ => ⟨r, h4, rfl, by rw [hr, e]⟩⟩
  · exact ⟨0, fun q => absurd q hn⟩

/-- At least fifty keys are near. -/
theorem card_near (d : Fin 50000 → EReal) : 50 ≤ (Finset.univ.filter fun a => d a ≤ reach d).card := by
  have h := Finset.card_le_card_of_injOn (s := (Finset.univ : Finset (Fin 50))) (t := Finset.univ.filter fun a => d a ≤ reach d) (sel d)
    (fun r _ => by
      simp only [Finset.coe_filter, Finset.mem_univ, true_and, Set.mem_setOf_eq]
      exact sorted_mono d (Fin.le_def.mpr (by have := r.2; simp only [Fin.val_castLE]; show (r : ℕ) ≤ 49; omega)))
    (fun r _ r' _ e => Fin.castLE_injective _ (sortedFrom_injective _ e))
  simpa using h

variable {v : Fin 50000 → EReal} {v' : Fin 50176 → EReal} (hv : ∀ a : Fin 50000, v' (asPlace a) = v a)

include hs hD hpad hv in
/-- The fifty nearest slots hold the fifty nearest keys. -/
theorem nearest_slots : (∀ s, rank (place (slot D)) s < 50 → slot D s < ⊤) ∧
    ∀ g : EReal → EReal → EReal, nearest (slot D) (fun s => g (slot D s) (slotValue D v' s)) = nearest d fun a => g (d a) (v a) := by
  classical
  choose φ hφ using slot_of hs hD hpad
  have hval : ∀ a, d a ≤ reach d → slot D (φ a) = d a ∧ slotValue D v' (φ a) = v a := fun a ha => by
    obtain ⟨r, h4, e, el⟩ := hφ a ha
    have h : (φ a : ℕ) % 256 < 224 := by omega
    have hc : chunkOf (φ a) h = ⟨(a : ℕ) / 128, by omega⟩ := Fin.ext (by simp only [chunkOf]; omega)
    have hr : (⟨(φ a : ℕ) % 4, by omega⟩ : Fin 128) = r := Fin.ext (by simp only; omega)
    have key := slot_near hs hD hpad v' (φ a) h (by rw [hc, hr]; show D _ ≤ _; rw [el, hD]; exact ha)
    rw [hc, hr] at key
    exact ⟨key.1.trans (by show D _ = _; rw [el, hD]), key.2.trans (by rw [el, hv])⟩
  have hlow : ∀ {n : ℕ} (x : Fin n → EReal) (a b : Fin n), x b ≤ reach d → place x a < place x b → x a ≤ reach d :=
    fun x a b hb h => by
      rcases (place_lt x).mp h with q | q
      · exact q.le.trans hb
      · exact q.1.trans_le hb
  have hmono : ∀ a a', d a ≤ reach d → d a' ≤ reach d → place d a < place d a' → place (slot D) (φ a) < place (slot D) (φ a') := by
    intro a a' ha ha' h
    refine (place_lt _).mpr ?_
    rw [(hval a ha).1, (hval a' ha').1]
    rcases (place_lt d).mp h with q | ⟨q, hlt⟩
    · exact Or.inl q
    · refine Or.inr ⟨q, Fin.lt_def.mpr ?_⟩
      have hlt := Fin.lt_def.mp hlt
      obtain ⟨r, h4, e, -⟩ := hφ a ha
      obtain ⟨r', h4', e', -⟩ := hφ a' ha'
      have hne : (a : ℕ) / 128 ≠ (a' : ℕ) / 128 := fun hc => by
        have ec : ∀ b : Fin 50000, (b : ℕ) / 128 = (a : ℕ) / 128 → chunk d ⟨(a : ℕ) / 128, by omega⟩ ⟨(b : ℕ) % 128, by omega⟩ = d b := fun b hb => by
          have hb' : 128 * ((a : ℕ) / 128) + (b : ℕ) % 128 = b := by omega
          unfold chunk
          rw [dif_pos (by simp only; omega)]
          exact congrArg d (Fin.ext hb')
        have := near_inj hs ⟨(a : ℕ) / 128, by omega⟩ ⟨(a : ℕ) % 128, by omega⟩ ⟨(a' : ℕ) % 128, by omega⟩
          (by rw [ec a rfl]; exact ha) (by rw [ec a rfl, ec a' hc.symm, q])
        have := Fin.mk.inj_iff.mp this
        omega
      omega
  have hmap : ∀ a, d a ≤ reach d → slot D (φ a) ≤ reach d := fun a ha => by rw [(hval a ha).1]; exact ha
  have hsurj : ∀ s, slot D s ≤ reach d → ∃ a, d a ≤ reach d ∧ φ a = s := fun s hn => by
    obtain ⟨h, hl⟩ := near_slot hs hD hpad s hn
    obtain ⟨hlt, e1, -⟩ := near_lane hs hD hpad _ _ hl
    generalize hl' : sortedFrom (byValue (laneRow D (chunkOf s h))) ⟨(s : ℕ) % 4, by omega⟩ = l at *
    have ha : d ⟨128 * (chunkOf s h : ℕ) + l, hlt⟩ ≤ reach d := e1 ▸ hl
    refine ⟨_, ha, Fin.ext ?_⟩
    obtain ⟨r, h4, e, el⟩ := hφ _ ha
    have hc : (⟨(128 * (chunkOf s h : ℕ) + l) / 128, by omega⟩ : Fin 392) = chunkOf s h := Fin.ext (by simp only; omega)
    have hcv : (chunkOf s h : ℕ) = 56 * ((s : ℕ) / 256) + (s : ℕ) % 256 / 4 := rfl
    simp only [hc] at el
    have elv := congrArg Fin.val el
    simp only [lane, asPlace] at elv
    have er : r = ⟨(s : ℕ) % 4, by omega⟩ := sortedFrom_injective _ (Fin.ext (by rw [hl']; omega))
    have erv := congrArg Fin.val er
    simp only at erv e
    omega
  have hcard' := card_near d
  have hr := rank_transfer (place (slot D)) (place d) (fun s => slot D s ≤ reach d) (fun a => d a ≤ reach d) φ
    (hlow (slot D)) (hlow d) hmap hsurj hmono (place_injective d)
  have hcard : 50 ≤ (Finset.univ.filter fun s => slot D s ≤ reach d).card := by
    refine hcard'.trans (Finset.card_le_card_of_injOn φ (fun a ha => ?_) fun a ha b hb e => ?_)
    · simp only [Finset.coe_filter, Finset.mem_univ, true_and, Set.mem_setOf_eq] at *
      exact hmap a ha
    · simp only [Finset.coe_filter, Finset.mem_univ, true_and, Set.mem_setOf_eq] at *
      exact rank_injective (place d) (place_injective d) (by rw [← hr a ha, ← hr b hb, e])
  refine ⟨fun s h => ?_, fun g => ?_⟩
  · exact (near_of_rank (place (slot D)) (fun s => slot D s ≤ reach d) (hlow (slot D)) (place_injective _) 50 hcard s h).trans_lt
      ((reach_lt_sentinel hs).trans_le le_top)
  · exact sum_transfer (place (slot D)) (place d) (fun s => slot D s ≤ reach d) (fun a => d a ≤ reach d) φ
      (hlow (slot D)) (hlow d) hmap hsurj hmono (place_injective d) (place_injective _) 50 hcard hcard' _ _
      (fun a ha => by rw [(hval a ha).1, (hval a ha).2])

end Chunks

end Cert.Proof
-- ==== Proof.Average.lean ====
/- Hand-written, untrusted: signs of distances and weights; the weighted average as a quotient of two sums. -/
module

public import proofs.«01_k».proof.Proof.Transfer

@[expose] public section

noncomputable section

namespace Cert.Proof

open Idealize.ShloMosaic Select

/-- A key whose entries are all 1e4 is at the distance `farAway`. -/
theorem dist_far (q : Fin 128 → EReal) : Cert.Proof.dist q (fun _ => Ideal.ofBits .f32 0x461C4000#32) = farAway q := by
  have e : ∑ _i : Fin 128, Ideal.ofBits .f32 0x461C4000#32 * Ideal.ofBits .f32 0x461C4000#32 = Ideal.ofBits .f32 0x503EBC20#32 := by
    rw [lit_key, lit_keySq, ← EReal.coe_mul, Finset.sum_const, Finset.card_univ, Fintype.card_fin, ← EReal.coe_nsmul]
    norm_num
  unfold Cert.Proof.dist farAway
  rw [e]

theorem square_nonneg (x : EReal) : 0 ≤ x * x := by
  rcases le_total 0 x with h | h
  · exact mul_nonneg h h
  · rw [← neg_mul_neg]
    have : 0 ≤ -x := by rwa [EReal.le_neg, neg_zero]
    exact mul_nonneg this this

theorem coe_sum {n : ℕ} (f : Fin n → ℝ) : ((∑ i, f i : ℝ) : EReal) = ∑ i, (f i : EReal) := by
  induction (Finset.univ : Finset (Fin n)) using Finset.induction_on with
  | empty => simp
  | insert a s ha ih => rw [Finset.sum_insert ha, Finset.sum_insert ha, EReal.coe_add, ih]

/-- An infinite entry makes the sum of squares infinite. -/
theorem squares_top (x : Fin 128 → EReal) (i : Fin 128) (h : x i = ⊤ ∨ x i = ⊥) : ∑ i, x i * x i = ⊤ := by
  refine top_le_iff.mp ?_
  refine le_trans ?_ (Finset.single_le_sum (f := fun i => x i * x i) (fun i _ => square_nonneg _) (Finset.mem_univ i))
  rcases h with h | h <;> simp [h]

/-- A distance is nonnegative, unless it is −∞. -/
theorem dist_sign (q k : Fin 128 → EReal) : Cert.Proof.dist q k = ⊥ ∨ 0 ≤ Cert.Proof.dist q k := by
  have hsq : ∀ x : Fin 128 → EReal, 0 ≤ ∑ i, x i * x i := fun x => Finset.sum_nonneg fun i _ => square_nonneg _
  have htop : ∀ y : EReal, (⊤ : EReal) - y = ⊥ ∨ 0 ≤ (⊤ : EReal) - y := fun y => by
    by_cases hy : y = ⊤
    · left; rw [hy]; rfl
    · right
      rw [sub_eq_add_neg, EReal.top_add_of_ne_bot fun h => hy (EReal.neg_eq_bot_iff.mp h)]
      exact le_top
  by_cases hq : ∃ i, q i = ⊤ ∨ q i = ⊥
  · obtain ⟨i, hi⟩ := hq
    unfold Cert.Proof.dist
    rw [squares_top q i hi, EReal.top_add_of_ne_bot fun h => absurd (hsq k) (by rw [h]; simp)]
    exact htop _
  by_cases hk : ∃ i, k i = ⊤ ∨ k i = ⊥
  · obtain ⟨i, hi⟩ := hk
    unfold Cert.Proof.dist
    rw [squares_top k i hi, EReal.add_top_of_ne_bot fun h => absurd (hsq q) (by rw [h]; simp)]
    exact htop _
  · right
    push Not at hq hk
    have eq : ∀ i, q i = ((q i).toReal : EReal) := fun i => (EReal.coe_toReal (hq i).1 (hq i).2).symm
    have ek : ∀ i, k i = ((k i).toReal : EReal) := fun i => (EReal.coe_toReal (hk i).1 (hk i).2).symm
    have hx : Cert.Proof.dist q k = ((∑ i, ((q i).toReal - (k i).toReal) ^ 2 : ℝ) : EReal) := by
      unfold Cert.Proof.dist
      rw [lit_two, Finset.sum_congr rfl fun i _ => congrArg₂ (· * ·) (eq i) (eq i),
        Finset.sum_congr rfl fun i _ => congrArg₂ (· * ·) (ek i) (ek i), Finset.sum_congr rfl fun i _ => congrArg₂ (· * ·) (eq i) (ek i)]
      simp only [← EReal.coe_mul, ← coe_sum, ← EReal.coe_add, ← EReal.coe_sub]
      congr 1
      rw [Finset.mul_sum, ← Finset.sum_add_distrib, ← Finset.sum_sub_distrib]
      exact Finset.sum_congr rfl fun i _ => by ring
    rw [hx]
    exact EReal.coe_nonneg.mpr (Finset.sum_nonneg fun i _ => sq_nonneg _)

theorem inv_nonneg (y : EReal) (h : y = ⊥ ∨ 0 ≤ y) : 0 ≤ y⁻¹ := by
  rcases h with rfl | h
  · simp
  · exact EReal.inv_nonneg_of_nonneg h

/-- A weight is nonnegative. -/
theorem weight_nonneg (x : EReal) (h : x = ⊥ ∨ 0 ≤ x) : 0 ≤ weight x := by
  obtain ⟨e, he, hl⟩ := lit_eps
  have h' : x + (e : EReal) = ⊥ ∨ 0 ≤ x + (e : EReal) := by
    rcases h with rfl | h
    · left; simp
    · right; exact add_nonneg h (by exact_mod_cast he.le)
  unfold weight Ideal.div
  rw [hl]
  split
  · rw [if_pos one_pos]; exact le_top
  · rw [one_mul]; exact inv_nonneg _ h'

/-- At a finite nonnegative distance it is positive. -/
theorem weight_pos (x : EReal) (h : 0 ≤ x) (ht : x < ⊤) : 0 < weight x := by
  obtain ⟨e, he, hl⟩ := lit_eps
  lift x to ℝ using ⟨ht.ne, fun q => absurd h (by rw [q]; simp)⟩
  have hp : 0 < x + e := add_pos_of_nonneg_of_pos (by exact_mod_cast h) he
  unfold weight Ideal.div
  rw [hl, ← EReal.coe_add, if_neg (by exact_mod_cast hp.ne'), one_mul, ← EReal.coe_inv]
  exact_mod_cast inv_pos.mpr hp

/-- A common nonnegative finite factor comes out of a sum. -/
theorem sum_mul_right {n : ℕ} (f : Fin n → EReal) (s : Finset (Fin n)) (y : EReal) (h : 0 ≤ y) (ht : y ≠ ⊤) :
    ∑ a ∈ s, f a * y = (∑ a ∈ s, f a) * y := by
  induction s using Finset.induction_on with
  | empty => simp
  | insert a s ha ih =>
    rw [Finset.sum_insert ha, Finset.sum_insert ha, ih, EReal.right_distrib_of_nonneg_of_ne_top h ht]

/-- The `r`-th nearest key has rank `r`. -/
theorem rank_sel (d : Fin 50000 → EReal) (r : Fin 50) : rank (place d) (sel d r) = r :=
  rank_enum (place d) (sortedFrom (byValue d)) (sorted_bij d).2 (sorted_place d) (r.castLE (by decide))

/-- A sum over the fifty nearest keys in order. -/
theorem sum_sel (d f : Fin 50000 → EReal) : ∑ r, f (sel d r) = nearest d f :=
  sum_first (place d) (place_injective d) 50 (sel d) (rank_sel d) f

/-- The recalled value is the weighted sum of the nearest keys' values over the sum of their weights. -/
theorem recalled_eq {q : Fin 128 → EReal} {d : Fin 50000 → EReal} (hs : Separated q d) (hsign : ∀ a, d a = ⊥ ∨ 0 ≤ d a)
    (v : Fin 50000 → EReal) :
    recalled d v = Ideal.div (nearest d fun a => weight (d a) * v a) (nearest d fun a => weight (d a)) := by
  have hW0 : 0 ≤ nearest d fun a => weight (d a) := Finset.sum_nonneg fun a _ => weight_nonneg _ (hsign a)
  have hW : 0 < nearest d fun a => weight (d a) := by
    rw [← sum_sel d fun a => weight (d a)]
    refine lt_of_lt_of_le ?_ (Finset.single_le_sum (f := fun r => weight (d (sel d r))) (fun r _ => weight_nonneg _ (hsign _))
      (Finset.mem_univ 49))
    have h1 : reach d < ⊤ := (reach_lt_sentinel hs).trans_le le_top
    refine weight_pos _ ?_ h1
    rcases hsign (sel d 49) with h | h
    · have h2 := (le_max_right (reach d) (-reach d)).trans_lt hs.finite
      rw [show reach d = ⊥ from h, EReal.neg_bot] at h2
      exact absurd h2 not_top_lt
    · exact h
  have hinv : (nearest d fun a => weight (d a))⁻¹ ≠ ⊤ := by
    generalize (nearest d fun a => weight (d a)) = W at *
    induction W with
    | bot => simp
    | top => simp
    | coe r => rw [← EReal.coe_inv]; exact EReal.coe_ne_top _
  have e : ∀ x : EReal, Ideal.div x (nearest d fun a => weight (d a)) = x * (nearest d fun a => weight (d a))⁻¹ :=
    fun x => if_neg hW.ne'
  unfold recalled
  rw [sum_sel d fun a => weight (d a), sum_sel d fun a => Ideal.div (weight (d a)) (nearest d fun a => weight (d a)) * v a]
  simp only [e]
  generalize hw : (nearest d fun a => weight (d a))⁻¹ = w at *
  have hw0 : 0 ≤ w := hw ▸ inv_nonneg _ (Or.inr hW0)
  unfold nearest
  rw [← sum_mul_right _ _ _ hw0 hinv]
  exact Finset.sum_congr rfl fun a _ => mul_right_comm _ _ _

/-- The result for one query: what the kernel blends is what the reference blends. -/
theorem row_eq {q : Fin 128 → EReal} {K : Fin 50176 → Fin 128 → EReal} {k : Fin 50000 → Fin 128 → EReal}
    (hs : Separated q fun a => Cert.Proof.dist q (k a)) (hK : ∀ a : Fin 50000, K (asPlace a) = k a)
    (hpad : ∀ a : Fin 50176, 50000 ≤ (a : ℕ) → K a = fun _ => Ideal.ofBits .f32 0x461C4000#32)
    {v : Fin 50000 → EReal} {v' : Fin 50176 → EReal} (hv : ∀ a : Fin 50000, v' (asPlace a) = v a) :
    (∀ s, rank (place (slot fun a => Cert.Proof.dist q (K a))) s < 50 → slot (fun a => Cert.Proof.dist q (K a)) s < ⊤) ∧
    Ideal.div (nearest (slot fun a => Cert.Proof.dist q (K a)) fun s =>
        weight (slot (fun a => Cert.Proof.dist q (K a)) s) * slotValue (fun a => Cert.Proof.dist q (K a)) v' s)
      (nearest (slot fun a => Cert.Proof.dist q (K a)) fun s => weight (slot (fun a => Cert.Proof.dist q (K a)) s)) =
      recalled (fun a => Cert.Proof.dist q (k a)) v := by
  obtain ⟨h1, h2⟩ := nearest_slots hs (D := fun a => Cert.Proof.dist q (K a)) (fun a => by rw [hK])
    (fun a ha => by rw [hpad a ha, dist_far]) hv
  refine ⟨h1, ?_⟩
  rw [recalled_eq hs (fun a => dist_sign q (k a)), h2 fun x y => weight x * y, h2 fun x _ => weight x]

end Cert.Proof
-- ==== Proof.Boundary.lean ====
/- Hand-written, untrusted: the host stretches around the three regions read entry by entry, and the contents of the
   kernel's result composed from the regions' values. -/
module

public import proofs.«01_k».proof.Proof.Region0
public import proofs.«01_k».proof.Proof.Region1
public import proofs.«01_k».proof.Proof.Region2
public import proofs.«01_k».proof.Proof.Average
public import Idealize.ShloMosaic.Lib.StableHlo.ReadAt
public import Idealize.ShloMosaic.Lib.Routing.OpsOne

@[expose] public section

noncomputable section

namespace Cert.KernelIdeal.Gen

open Idealize.ShloMosaic Idealize.ShloMosaic.TcCoe Idealize.SL.Sem Cert.Proof Cert.Proof.Select
open Idealize.ShloMosaic.Routing

section Stretches

variable (X : Valuation τ sig (Elt Ideal))

/-! ### The first stretch lays the vectors out as rows -/

theorem v0_row : mat (StableHlo.after hostOps0 X (Proc.devRef .tc main_v0)) 0 = vec (X (Proc.devRef .tc main_arg2)) := by
  funext j
  dsimp only [mat, vec]
  after_reads_at

theorem v1_row : mat (StableHlo.after hostOps0 X (Proc.devRef .tc main_v1)) 0 = vec (X (Proc.devRef .tc main_arg4)) := by
  funext j
  dsimp only [mat, vec]
  after_reads_at

theorem v2_row : mat (StableHlo.after hostOps0 X (Proc.devRef .tc main_v2)) 0 = vec (X (Proc.devRef .tc main_arg5)) := by
  funext j
  dsimp only [mat, vec]
  after_reads_at

theorem v3_row : mat (StableHlo.after hostOps0 X (Proc.devRef .tc main_v3)) 0 = vec (X (Proc.devRef .tc main_arg6)) := by
  funext j
  dsimp only [mat, vec]
  after_reads_at

theorem v4_row : mat (StableHlo.after hostOps0 X (Proc.devRef .tc main_v4)) 0 = vec (X (Proc.devRef .tc main_arg10)) := by
  funext j
  dsimp only [mat, vec]
  after_reads_at

theorem v5_row : mat (StableHlo.after hostOps0 X (Proc.devRef .tc main_v5)) 0 = vec (X (Proc.devRef .tc main_arg12)) := by
  funext j
  dsimp only [mat, vec]
  after_reads_at

/-- The last layer's weights, a column, are laid out as a row. -/
theorem v6_row (j : Fin 128) : mat (StableHlo.after hostOps0 X (Proc.devRef .tc main_v6)) 0 j = mat (X (Proc.devRef .tc main_arg13)) j 0 := by
  dsimp only [mat]
  after_reads_at

theorem v7_row : mat (StableHlo.after hostOps0 X (Proc.devRef .tc main_v7)) 0 0 = vec (X (Proc.devRef .tc main_arg14)) 0 := by
  dsimp only [mat, vec]
  after_reads_at

/-! ### The second stretch pads the keys and the stored values -/

/-- Entry `j` of padded key `a`: the key's own below 50000, the padding's value above. -/
theorem v10_entry (a : Fin 50176) (j : Fin 128) : mat (StableHlo.after hostOps1 X (Proc.devRef .tc main_v10)) a j =
    if h : (a : ℕ) < 50000 then mat (X (Proc.devRef .tc main_arg7)) ⟨a, h⟩ j else Ideal.ofBits .f32 0x461C4000#32 := by
  dsimp only [mat]
  after_reads_at

theorem v10_key (a : Fin 50000) : mat (StableHlo.after hostOps1 X (Proc.devRef .tc main_v10)) (asPlace a) = mat (X (Proc.devRef .tc main_arg7)) a := by
  funext j
  rw [v10_entry]
  exact dif_pos a.isLt

theorem v10_pad (a : Fin 50176) (h : 50000 ≤ (a : ℕ)) :
    mat (StableHlo.after hostOps1 X (Proc.devRef .tc main_v10)) a = fun _ => Ideal.ofBits .f32 0x461C4000#32 := by
  funext j
  rw [v10_entry]
  exact dif_neg (by omega)

/-- The row of ones. -/
theorem v16_row (j : Fin 128) : mat (StableHlo.after hostOps1 X (Proc.devRef .tc main_v16)) 0 j = 1 := by
  dsimp only [mat]
  after_reads_at

/-- Update `k` of the scatter that writes the stored values at the row's start lands at `(0, e)` exactly when `e` is `k`. -/
theorem lands (idx : IVec S2 32) (hi : ∀ q : Fin 2, idx (ix1 q) = 0#32) (k : Fin 50000) (e : Fin 50176) :
    scatter_S1x50176_S2_S50000_0_0_01_0.resultIdx? (ix1 k) idx = some (ix2 0 e) ↔ (k : ℕ) = e := by
  have hstart : ∀ q : Fin 2, scatter_S1x50176_S2_S50000_0_0_01_0.start (ix1 k) idx q = 0 := fun q =>
    (start_pair scatter_S1x50176_S2_S50000_0_0_01_0 rfl rfl idx (ix1 k) q).trans (congrArg BitVec.toInt (hi q))
  have hkept : scatter_S1x50176_S2_S50000_0_0_01_0.sKept = [1] := rfl
  have hwin0 : scatter_S1x50176_S2_S50000_0_0_01_0.window (ix1 k) 0 = 0 := by
    unfold ScatterDims.window
    exact dif_neg (by rw [hkept]; decide)
  have hwin1 : scatter_S1x50176_S2_S50000_0_0_01_0.window (ix1 k) 1 = k := by
    unfold ScatterDims.window
    exact dif_pos (by rw [hkept]; exact List.mem_singleton.2 rfl)
  refine (resultIdx?_ix2 _ (ix1 k) idx 0 e).trans ?_
  rw [hstart, hstart, hwin0, hwin1]
  simp

/-- The padded row of stored values holds the stored values at its first 50000 places. -/
theorem v15_value (a : Fin 50000) : mat (StableHlo.after hostOps1 X (Proc.devRef .tc main_v15)) 0 (asPlace a) = vec (X (Proc.devRef .tc main_arg8)) a := by
  dsimp only [mat, vec]
  after_reads_at
  have hi : ∀ q : Fin 2, (concatenate S2 0
        [⟨S1, StableHlo.upto hostOps1 X 9 (Proc.devRef .tc main_v12)⟩,
          ⟨S1, StableHlo.upto hostOps1 X 9 (Proc.devRef .tc main_v13)⟩]
        concatenates_S1_S1_S2_d0 : IVec S2 32) (ix1 q) = 0#32 := by
    intro q
    fin_cases q
    · after_reads_at
    · after_reads_at
  refine scatter_set_hit _ _ _ _ _ _ (fun k hk => ?_) (ix1 a) ((lands _ hi a (asPlace a)).2 rfl)
  rw [eq_ix1 k] at hk ⊢
  exact congrArg _ (congrArg ix1 (Fin.ext ((lands _ hi (k 0) (asPlace a)).1 hk)))

/-! ### The last stretch lays the results out as a vector -/

theorem v19_entry (a : Fin 1024) : StableHlo.after hostOps3 X (Proc.devRef .tc main_v19) (ix1 a) = mat (X (Proc.devRef .tc main_v18)) a 0 := by
  dsimp only [mat]
  after_reads_at

end Stretches

section Chain

variable (m : (ℓ : Loc nD τ sig) → Buf (Elt Ideal) ℓ) (ρ : Dev nD → PrngReg) (c : Dev nD)

/-- The query of row `a`, from the arguments as launched. -/
abbrev launchQuery (a : Fin 1024) : Fin 128 → EReal :=
  queryOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) a

/-- The value network's answer for row `a`, from the arguments as launched. -/
abbrev launchWorth (a : Fin 1024) : EReal :=
  worthOf (m ((c : Thread nD τ).loc main_arg0)) (m ((c : Thread nD τ).loc main_arg9)) (m ((c : Thread nD τ).loc main_arg10))
    (m ((c : Thread nD τ).loc main_arg11)) (m ((c : Thread nD τ).loc main_arg12)) (m ((c : Thread nD τ).loc main_arg13))
    (m ((c : Thread nD τ).loc main_arg14)) a

/-- The first region leaves the queries of the arguments. -/
theorem queries_launch (a : Fin 1024) : mat (V3 m ρ c main_v8_0) a = launchQuery m c a := by
  have e : V3 m ρ c main_v8_0 = queries (V1 m ρ) c :=
    (W3_of m ρ c main_v8_0 (by decide)).trans ((W2_arr m ρ c 13).trans (arr0_13 (V1 m ρ) c))
  rw [e]
  funext j
  show query (mat (W1 m ρ c (Proc.devRef .tc main_arg0)) a) (mat (W1 m ρ c (Proc.devRef .tc main_arg1))) (mat (W1 m ρ c (Proc.devRef .tc main_v0)) 0)
    (mat (W1 m ρ c (Proc.devRef .tc main_arg3))) (mat (W1 m ρ c (Proc.devRef .tc main_v1)) 0) (mat (W1 m ρ c (Proc.devRef .tc main_v2)) 0)
    (mat (W1 m ρ c (Proc.devRef .tc main_v3)) 0) j = _
  rw [v0_row, v1_row, v2_row, v3_row, W1_args m ρ c main_arg0 (by decide), W1_args m ρ c main_arg1 (by decide), W1_args m ρ c main_arg3 (by decide)]
  rfl

/-- The first region leaves the value network's answers for the arguments. -/
theorem answers_launch (a : Fin 1024) : mat (V4 m ρ c main_v8_1) a 0 = launchWorth m c a := by
  have e : V4 m ρ c main_v8_1 = answers (V1 m ρ) c :=
    (W4_of_ne m ρ c main_v8_1 (by decide)).trans
      ((W3_of m ρ c main_v8_1 (by decide)).trans ((W2_arr m ρ c 14).trans (arr0_14 (V1 m ρ) c)))
  rw [e]
  show worth (mat (W1 m ρ c (Proc.devRef .tc main_arg0)) a) (mat (W1 m ρ c (Proc.devRef .tc main_arg9))) (mat (W1 m ρ c (Proc.devRef .tc main_v4)) 0)
    (mat (W1 m ρ c (Proc.devRef .tc main_arg11))) (mat (W1 m ρ c (Proc.devRef .tc main_v5)) 0)
    (fun i _ => mat (W1 m ρ c (Proc.devRef .tc main_v6)) 0 i) (fun _ => mat (W1 m ρ c (Proc.devRef .tc main_v7)) 0 0) = _
  rw [v4_row, v5_row, W1_args m ρ c main_arg0 (by decide), W1_args m ρ c main_arg9 (by decide), W1_args m ρ c main_arg11 (by decide)]
  unfold launchWorth worthOf
  congr 1
  · funext i z
    rw [Subsingleton.elim z 0]
    exact v6_row (W0 m ρ c) i
  · funext z
    rw [Subsingleton.elim z 0]
    exact v7_row (W0 m ρ c)

/-- **The kernel's result, row by row.** Where each query is separated from the keys, the result of row `a` blends the value
    recalled from the 50 nearest keys with the value network's answer. -/
theorem result_launch
    (hs : ∀ a, Separated (launchQuery m c a) fun k => Cert.Proof.dist (launchQuery m c a) (mat (m ((c : Thread nD τ).loc main_arg7)) k))
    (a : Fin 1024) : W6 m ρ c (Proc.devRef .tc main_v19) (ix1 a) =
      blend (recalled (fun k => Cert.Proof.dist (launchQuery m c a) (mat (m ((c : Thread nD τ).loc main_arg7)) k))
        (vec (m ((c : Thread nD τ).loc main_arg8)))) (launchWorth m c a) := by
  have hK : ∀ k : Fin 50000, mat (V3 m ρ c main_v10) (asPlace k) = mat (m ((c : Thread nD τ).loc main_arg7)) k := fun k =>
    (v10_key (W2 m ρ c) k).trans (congrArg (fun x => mat x k) (W2_args m ρ c main_arg7 (by decide)))
  have hpad : ∀ k : Fin 50176, 50000 ≤ (k : ℕ) → mat (V3 m ρ c main_v10) k = fun _ => Ideal.ofBits .f32 0x461C4000#32 :=
    v10_pad (W2 m ρ c)
  have hv : ∀ k : Fin 50000, mat (V3 m ρ c main_v15) 0 (asPlace k) = vec (m ((c : Thread nD τ).loc main_arg8)) k := fun k =>
    (v15_value (W2 m ρ c) k).trans (congrArg (fun x => vec x k) (W2_args m ρ c main_arg8 (by decide)))
  have ho : ∀ i : Fin 128, mat (V3 m ρ c main_v16) 0 i = 1 := v16_row (W2 m ρ c)
  have e4 : V4 m ρ c main_v17_0 = keptAt (V3 m ρ) c := (W4_arr m ρ c 4).trans (arr1_4 (V3 m ρ) c ho)
  have e5 : V4 m ρ c main_v17_1 = keptValueAt (V3 m ρ) c := (W4_arr m ρ c 5).trans (arr1_5 (V3 m ρ) c ho)
  have hD : ∀ b, distances (V3 m ρ) c b = fun k => Cert.Proof.dist (launchQuery m c b) (mat (V3 m ρ c main_v10) k) := fun b => by
    funext k
    show Cert.Proof.dist (mat (V3 m ρ c main_v8_0) b) _ = _
    rw [queries_launch]
  have m4 : ∀ b, mat (V4 m ρ c main_v17_0) b = slot fun k => Cert.Proof.dist (launchQuery m c b) (mat (V3 m ρ c main_v10) k) := fun b => by
    rw [e4, ← hD]
    rfl
  have m5 : ∀ b, mat (V4 m ρ c main_v17_1) b =
      slotValue (fun k => Cert.Proof.dist (launchQuery m c b) (mat (V3 m ρ c main_v10) k)) (mat (V3 m ρ c main_v15) 0) := fun b => by
    rw [e5, ← hD]
    rfl
  have row := fun b => row_eq (hs b) hK hpad hv
  have e3 : W5 m ρ c (Proc.devRef .tc main_v18) = results (V4 m ρ) c :=
    (W5_arr m ρ c 3).trans (arr2_3 (V4 m ρ) c fun b s => by rw [m4]; exact (row b).1 s)
  rw [show W6 m ρ c (Proc.devRef .tc main_v19) (ix1 a) = mat (W5 m ρ c (Proc.devRef .tc main_v18)) a 0 from v19_entry (W5 m ρ c) a, e3]
  show blend (Ideal.div (nearest (mat (V4 m ρ c main_v17_0) a) fun s => weight (mat (V4 m ρ c main_v17_0) a s) * mat (V4 m ρ c main_v17_1) a s)
    (nearest (mat (V4 m ρ c main_v17_0) a) fun s => weight (mat (V4 m ρ c main_v17_0) a s))) (mat (V4 m ρ c main_v8_1) a 0) = _
  rw [m4, m5, (row a).2, answers_launch]

end Chain

end Cert.KernelIdeal.Gen
-- ==== Proof.TopK.lean ====
/- Hand-written, untrusted: the top-k of the negated values, read at an entry as the stable sort of the values. -/
module

public import proofs.«01_k».proof.Proof.Spec

@[expose] public section

noncomputable section

namespace Cert.Proof

open Idealize.ShloMosaic

/-- Greater first, on the negated values, is smaller first on the values. -/
theorem before_eq {n : ℕ} (x : Fin n → EReal) :
    (fun k k' : Fin n => FloatOps.cmpfTotal (F := Ideal) (φ := .f32) CmpDirection.gt (x k) (x k') == 1#1) =
      Select.byValue fun k => -x k := by
  funext k k'
  have : Select.byValue (fun k => -x k) k k' = decide (x k' < x k) := by
    simp [Select.byValue, EReal.neg_lt_neg_iff]
  rw [this]
  show (Ideal.cmp .ogt (x k) (x k') == 1#1) = _
  unfold Ideal.cmp
  by_cases h : x k' < x k <;> simp [h]

section Two

variable {m n k : ℕ} (hk : k ≤ n) (x : FVec Ideal ⟨2, ![m, n]⟩ .f32)
  (h : (⟨2, ![m, n]⟩ : Shape).Slices (fun _ => 0) ⟨2, ![m, k]⟩) (a : Fin m) (j : Fin k)

theorem along_ix2 (j : Fin n) (l : Fin n) : (ix2 a j : (⟨2, ![m, n]⟩ : Shape).Idx).along 1 l = ix2 a l := by
  funext d
  match d with
  | ⟨0, _⟩ => exact Function.update_of_ne (fun e => absurd (congrArg Fin.val e : (0 : ℕ) = 1) (by decide)) _ _
  | ⟨1, _⟩ => exact Function.update_self _ _ _

/-- The top-k's values along the second axis of two. -/
theorem topK_value : (Host.topK ⟨2, ![m, k]⟩ 1 (FloatOps.cmpfTotal CmpDirection.gt) x h).1 (ix2 a j) =
    x (ix2 a (sortedFrom (Select.byValue fun l => -x (ix2 a l)) (j.castLE hk))) := by
  rw [← before_eq fun l => x (ix2 a l)]
  unfold Host.topK
  dsimp only
  rw [extractStridedSlice_apply _ _ _ _ (ix2 a (j.castLE hk)) (by intro d; fin_cases d <;> simp [ix2])]
  unfold Host.sort2
  rw [dif_pos (show 1 < (⟨2, ![m, n]⟩ : Shape).rank from (by decide : 1 < 2))]
  exact (congrArg x (along_ix2 a _ _)).trans (congrArg (fun f => x (ix2 a (sortedFrom f (j.castLE hk))))
    (funext fun l : Fin n => funext fun l' : Fin n =>
      congrArg₂ (fun u v => (FloatOps.cmpfTotal (F := Ideal) (φ := .f32) CmpDirection.gt (x u) (x v) == 1#1))
        (along_ix2 a _ l) (along_ix2 a _ l')))

/-- The top-k's positions along the second axis of two. -/
theorem topK_index : (Host.topK ⟨2, ![m, k]⟩ 1 (FloatOps.cmpfTotal CmpDirection.gt) x h).2 (ix2 a j) =
    BitVec.ofNat 32 (sortedFrom (Select.byValue fun l => -x (ix2 a l)) (j.castLE hk)).val := by
  rw [← before_eq fun l => x (ix2 a l)]
  unfold Host.topK
  dsimp only
  rw [extractStridedSlice_apply _ _ _ _ (ix2 a (j.castLE hk)) (by intro d; fin_cases d <;> simp [ix2])]
  unfold Host.sort2
  rw [dif_pos (show 1 < (⟨2, ![m, n]⟩ : Shape).rank from (by decide : 1 < 2))]
  dsimp only
  rw [dif_pos (show 1 < (⟨2, ![m, n]⟩ : Shape).rank from (by decide : 1 < 2))]
  refine (congrArg (fun i : (⟨2, ![m, n]⟩ : Shape).Idx => BitVec.ofNat 32 (i 1).val) (along_ix2 a (j.castLE hk) _)).trans
    (congrArg (fun f => BitVec.ofNat 32 (sortedFrom f (j.castLE hk)).val)
    (funext fun l : Fin n => funext fun l' : Fin n =>
      congrArg₂ (fun u v => (FloatOps.cmpfTotal (F := Ideal) (φ := .f32) CmpDirection.gt (x u) (x v) == 1#1))
        (along_ix2 a _ l) (along_ix2 a _ l')))

end Two

section Three

variable {m c n k : ℕ} (hk : k ≤ n) (x : FVec Ideal ⟨3, ![m, c, n]⟩ .f32)
  (h : (⟨3, ![m, c, n]⟩ : Shape).Slices (fun _ => 0) ⟨3, ![m, c, k]⟩) (a : Fin m) (b : Fin c) (j : Fin k)

theorem along_ix3 (j : Fin n) (l : Fin n) : (ix3 a b j : (⟨3, ![m, c, n]⟩ : Shape).Idx).along 2 l = ix3 a b l := by
  funext d
  match d with
  | ⟨0, _⟩ => exact Function.update_of_ne (fun e => absurd (congrArg Fin.val e : (0 : ℕ) = 2) (by decide)) _ _
  | ⟨1, _⟩ => exact Function.update_of_ne (fun e => absurd (congrArg Fin.val e : (1 : ℕ) = 2) (by decide)) _ _
  | ⟨2, _⟩ => exact Function.update_self _ _ _

/-- The top-k's values along the third axis of three. -/
theorem topK_value3 : (Host.topK ⟨3, ![m, c, k]⟩ 2 (FloatOps.cmpfTotal CmpDirection.gt) x h).1 (ix3 a b j) =
    x (ix3 a b (sortedFrom (Select.byValue fun l => -x (ix3 a b l)) (j.castLE hk))) := by
  rw [← before_eq fun l => x (ix3 a b l)]
  unfold Host.topK
  dsimp only
  rw [extractStridedSlice_apply _ _ _ _ (ix3 a b (j.castLE hk)) (by intro d; fin_cases d <;> simp [ix3])]
  unfold Host.sort2
  rw [dif_pos (show 2 < (⟨3, ![m, c, n]⟩ : Shape).rank from (by decide : 2 < 3))]
  exact (congrArg x (along_ix3 a b _ _)).trans (congrArg (fun f => x (ix3 a b (sortedFrom f (j.castLE hk))))
    (funext fun l : Fin n => funext fun l' : Fin n =>
      congrArg₂ (fun u v => (FloatOps.cmpfTotal (F := Ideal) (φ := .f32) CmpDirection.gt (x u) (x v) == 1#1))
        (along_ix3 a b _ l) (along_ix3 a b _ l')))

end Three

end Cert.Proof
-- ==== Proof.RefRead.lean ====
/- Hand-written, untrusted: the reference's result, read at an entry. -/
module

public import proofs.«01_k».proof.Proof.Gen.ReferenceIdeal.Run
public import proofs.«01_k».proof.Proof.TopK
public import Idealize.ShloMosaic.Lib.Tactic.CleanTypes

@[expose] public section

noncomputable section

namespace Cert.ReferenceIdeal.Value

open Idealize.ShloMosaic Idealize.SL.Sem Cert.Proof

variable (V : Valuation τ sig (Elt Ideal))

theorem v9_apply (a : Fin 1024) (j : Fin 128) : res_main_v9 V (ix2 a j) =
    dense (pos (dense (mat (V (Proc.devRef .tc main_arg0)) a) (mat (V (Proc.devRef .tc main_arg1)))
      (vec (V (Proc.devRef .tc main_arg2))))) (mat (V (Proc.devRef .tc main_arg3))) (vec (V (Proc.devRef .tc main_arg4))) j := by
  unfold res_main_v9
  clean_types
  pointwise
  rfl

theorem count_eq : Ideal.ofBits .f32 0x43000000#32 - (FloatOps.sitofp FTy.f32 0#32 : Ideal .f32) = Ideal.ofBits .f32 0x43000000#32 := by
  have : (FloatOps.sitofp FTy.f32 0#32 : Ideal .f32) = (0 : EReal) := by
    show (((0#32).toInt : ℝ) : EReal) = 0
    simp
  rw [this, sub_zero]

theorem count_pos : (0 : EReal) < Ideal.ofBits .f32 0x43000000#32 := by
  rw [lit_count]; exact_mod_cast (by norm_num : (0 : ℝ) < 128)

/-- The reference's encoded query. -/
theorem v27_apply (a : Fin 1024) (j : Fin 128) : res_main_v27 V (ix2 a j) =
    queryOf (V (Proc.devRef .tc main_arg0)) (V (Proc.devRef .tc main_arg1)) (V (Proc.devRef .tc main_arg2))
      (V (Proc.devRef .tc main_arg3)) (V (Proc.devRef .tc main_arg4)) (V (Proc.devRef .tc main_arg5)) (V (Proc.devRef .tc main_arg6)) a j := by
  have e : mat (res_main_v9 V) a = dense (pos (dense (mat (V (Proc.devRef .tc main_arg0)) a) (mat (V (Proc.devRef .tc main_arg1)))
      (vec (V (Proc.devRef .tc main_arg2))))) (mat (V (Proc.devRef .tc main_arg3))) (vec (V (Proc.devRef .tc main_arg4))) :=
    funext fun j => v9_apply V a j
  unfold queryOf query
  rw [← e]
  unfold res_main_v27
  clean_types
  pointwise [res_main_call0_v5, res_main_call0_v8]
  rw [count_eq, if_pos count_pos]
  rfl

/-- The reference's negated distances. -/
theorem v42_apply (a : Fin 1024) (j : Fin 50000) :
    res_main_v42 V (ix2 a j) = - Cert.Proof.dist (mat (res_main_v27 V) a) (mat (V (Proc.devRef .tc main_arg7)) j) := by
  unfold res_main_v42
  clean_types
  pointwise
  rfl

/-- Query `a`'s distances. -/
def far (a : Fin 1024) (j : Fin 50000) : EReal :=
  Cert.Proof.dist (mat (res_main_v27 V) a) (mat (V (Proc.devRef .tc main_arg7)) j)

theorem neg_v42 (a : Fin 1024) : (fun l => -mat (res_main_v42 V) a l) = far V a :=
  funext fun l => (congrArg (fun x : EReal => -x) (v42_apply V a l)).trans (neg_neg _)

/-- A position below 50000 as a word, read back signed. -/
theorem toInt_position {k : ℕ} (h : k < 50000) : (BitVec.ofNat 32 k).toInt = k := by
  rw [BitVec.toInt_ofNat', Int.bmod_eq_of_le] <;> omega

theorem not_negative {k : ℕ} (h : k < 50000) : IntOp.cmpi CmpIPredicate.slt (BitVec.ofNat 32 k) 0#32 = 0#1 := by
  unfold IntOp.cmpi
  simp only [BitVec.slt, toInt_position h]
  rw [decide_eq_false (show ¬ (k : ℤ) < (0#32).toInt by rw [show (0#32).toInt = 0 from rfl]; omega)]
  rfl

theorem in_range {k : ℕ} (h : k < 50000) : IntOp.andi (IntOp.cmpi CmpIPredicate.sge (BitVec.ofNat 32 k) 0#32)
    (IntOp.cmpi CmpIPredicate.sle (BitVec.ofNat 32 k) 49999#32) = 1#1 := by
  unfold IntOp.cmpi
  simp only [BitVec.sle, toInt_position h]
  rw [decide_eq_true (show (0#32).toInt ≤ (k : ℤ) by rw [show (0#32).toInt = 0 from rfl]; omega),
    decide_eq_true (show (k : ℤ) ≤ (49999#32).toInt by rw [show (49999#32).toInt = 49999 from rfl]; omega)]
  rfl

theorem v47_apply (a : Fin 1024) (j : Fin 50) : res_main_v47 V (ix2 a j) = weight (far V a (sel (far V a) j)) := by
  unfold res_main_v47
  clean_types
  pointwise
  rw [topK_value (by decide), neg_v42, v42_apply, neg_neg]
  rfl

theorem indices_apply (a : Fin 1024) (j : Fin 50) :
    res_main_indices V (ix2 a j) = BitVec.ofNat 32 (sel (far V a) j).val := by
  unfold res_main_indices
  clean_types
  rw [topK_index (by decide), neg_v42]
  rfl

theorem v5_apply (a : Fin 1024) (j : Fin 50) :
    res_main_call1_v5 V (ix3 a j 0) = BitVec.ofNat 32 (sel (far V a) j).val := by
  have h := (sel (far V a) j).isLt
  unfold res_main_call1_v5
  clean_types
  pointwise
  rw [indices_apply]
  rw [not_negative h]
  rfl

/-- The reference's result. -/
theorem v76_apply (a : Fin 1024) : val2 V (Proc.devRef .tc main_v76) (ix1 a) =
    blend (recalled (far V a) (vec (V (Proc.devRef .tc main_arg8))))
      (worthOf (V (Proc.devRef .tc main_arg0)) (V (Proc.devRef .tc main_arg9)) (V (Proc.devRef .tc main_arg10))
        (V (Proc.devRef .tc main_arg11)) (V (Proc.devRef .tc main_arg12)) (V (Proc.devRef .tc main_arg13)) (V (Proc.devRef .tc main_arg14)) a) := by
  rw [val2_main_v76]
  clean_types
  pointwise
  refine congrArg₂ blend ?_ rfl
  unfold recalled
  refine Finset.sum_congr rfl fun r _ => ?_
  have h := (sel (far V a) r).isLt
  simp only [v47_apply]
  congr 1
  have e : (Finset.fold IntOp.andi (1#1) (fun q : Fin 1 =>
      IntOp.andi (IntOp.cmpi CmpIPredicate.sge (res_main_call1_v5 V (ix3 a r q)) 0#32)
        (IntOp.cmpi CmpIPredicate.sle (res_main_call1_v5 V (ix3 a r q)) 49999#32)) Finset.univ) = 1#1 := by
    rw [show (Finset.univ : Finset (Fin 1)) = {0} from rfl, Finset.fold_singleton, v5_apply]
    rw [in_range h]
    rfl
  rw [e]
  refine (ValueIdx.gather_take_apply (by decide) Gen.gather_S50000_S1024x50x1_S1024x50_n_0_n_n_0_2_1_wf _ _ _).trans ?_
  refine congrArg (V (Proc.devRef .tc main_arg8)) (congrArg ix1 (Fin.ext ?_))
  have : ValueIdx.takeIdx (ix2 a r) = ix3 a r 0 := by
    funext d
    match d with
    | ⟨0, _⟩ => rfl
    | ⟨1, _⟩ => rfl
    | ⟨2, _⟩ => rfl
  dsimp only
  rw [this, v5_apply, toInt_position h]
  omega

end Cert.ReferenceIdeal.Value
-- ==== Proof.PreRead.lean ====
/- Hand-written, untrusted: what the precondition says of each query, read off its printed operations. -/
module

public import proofs.«01_k».proof.Pre_separated
public import proofs.«01_k».proof.Proof.TopK
public import Idealize.ShloMosaic.Lib.Tactic.CleanTypes

@[expose] public section

noncomputable section

namespace Cert.Pre_separated

open Idealize.ShloMosaic Idealize.SL.Sem Cert.Proof

variable [Facts]

theorem and_one (x y : BitVec 1) : IntOp.andi x y = 1#1 ↔ x = 1#1 ∧ y = 1#1 := by revert x y; decide

theorem or_one (x y : BitVec 1) : IntOp.ori x y = 1#1 ↔ x = 1#1 ∨ y = 1#1 := by revert x y; decide

theorem bit_one (p : Prop) [Decidable p] : BitVec.ofBool (decide p) = 1#1 ↔ p := by by_cases h : p <;> simp [h]

/-- The negated distances, +∞ past the last, in chunks of 128. -/
def rows (v41 : FVec Ideal S1024x50000 .f32) : FVec Ideal S1024x392x128 .f32 :=
  Host.negf (shapeCast S1024x392x128 (concatenate S1024x50176 1 [⟨S1024x50000, v41⟩,
    ⟨S1024x176, broadcastInDim S1024x176 ![] Facts.bcast_S_S1024x176 (constant S_ FTy.f32 0x7F800000#32)⟩]
    Facts.concatenates_S1024x50000_S1024x176_S1024x50176_d1) Facts.shapeCasts_S1024x50176_S1024x392x128)

theorem rows_apply (v41 : FVec Ideal S1024x50000 .f32) (a : Fin 1024) (c : Fin 392) (l : Fin 128) :
    rows v41 (ix3 a c l) = -chunk (mat v41 a) c l := by
  pointwise [rows]
  refine congrArg (fun x : EReal => -x) ?_
  unfold chunk
  by_cases h : 128 * (c : ℕ) + l < 50000
  · rw [dif_pos h, dif_pos (by omega)]
    exact congrArg (fun i => v41 (ix2 a i)) (Fin.ext (by simp only; omega))
  · rw [dif_neg h, dif_neg (by omega), lit_top]

theorem neg_rows (v41 : FVec Ideal S1024x50000 .f32) (a : Fin 1024) (c : Fin 392) :
    (fun l => -(rows v41 (ix3 a c l) : EReal)) = chunk (mat v41 a) c :=
  funext fun l => (congrArg (fun x : EReal => -x) (rows_apply v41 a c l)).trans (neg_neg _)

/-- Element `r` of the precondition's chunk `c`, in increasing order of distance. -/
theorem near_apply (v41 : FVec Ideal S1024x50000 .f32) (h) (a : Fin 1024) (c : Fin 392) (r : Fin 5) :
    -((Host.topK S1024x392x5 2 (FloatOps.cmpfTotal CmpDirection.gt) (rows v41) h).1 (ix3 a c r) : EReal) =
      chunk (mat v41 a) c (sortedFrom (Select.byValue (chunk (mat v41 a) c)) (r.castLE (by decide))) := by
  refine (congrArg (fun x : EReal => -x) ((topK_value3 (by decide) (rows v41) h a c r).trans ?_)).trans (neg_neg _)
  exact (rows_apply v41 a c _).trans (congrArg (fun f => -chunk (mat v41 a) c (sortedFrom (Select.byValue f) (r.castLE (by decide))))
    (neg_rows v41 a c))

/-- The last part of the precondition: the bound stands, the reach is below the far distance, and of each chunk the fifth
    is beyond the reach and the first four are apart or beyond it. -/
theorem part3_apply (v41 : FVec Ideal S1024x50000 .f32) (v44 v53 : FVec Ideal S1024x1 .f32) (v56 : IVec S1024x1 1)
    (a : Fin 1024) (c : Fin 392) (r : Fin 4) (h : fn_part3 v41 v44 v53 v56 (ix3 a c r) = 1#1) :
    ((v56 (ix2 a 0) = 1#1 ∧ v44 (ix2 a 0) < v53 (ix2 a 0)) ∧
      v44 (ix2 a 0) < chunk (mat v41 a) c (sortedFrom (Select.byValue (chunk (mat v41 a) c)) ⟨4, by decide⟩)) ∧
    (chunk (mat v41 a) c (sortedFrom (Select.byValue (chunk (mat v41 a) c)) ⟨r, by omega⟩) <
        chunk (mat v41 a) c (sortedFrom (Select.byValue (chunk (mat v41 a) c)) ⟨1 + r, by omega⟩) ∨
      v44 (ix2 a 0) < chunk (mat v41 a) c (sortedFrom (Select.byValue (chunk (mat v41 a) c)) ⟨r, by omega⟩)) := by
  unfold fn_part3 at h
  dsimp only at h
  pointwise at h
  simp only [and_one, or_one, bit_one] at h
  refine ⟨⟨h.1.1, ?_⟩, ?_⟩
  · exact h.1.2.trans_eq (near_apply v41 _ a c 4)
  · refine h.2.imp (fun q => ?_) (fun q => ?_)
    · exact (near_apply v41 _ a c ⟨r, by omega⟩).symm.trans_lt (q.trans_eq (near_apply v41 _ a c ⟨1 + r, by omega⟩))
    · exact q.trans_eq (near_apply v41 _ a c ⟨r, by omega⟩)

/-- The top-k's negated last value is the reach. -/
theorem reach_apply (x : FVec Ideal S1024x50000 .f32) (hs hs') (a : Fin 1024) :
    Host.negf (F := Ideal) (extractStridedSlice S1024x1 ![0, 49]
      (Host.topK S1024x50 1 (FloatOps.cmpfTotal CmpDirection.gt) (Host.negf x) hs).1 hs') (ix2 a 0) = reach (mat x a) := by
  have e : (fun l => -((Host.negf x : FVec Ideal S1024x50000 .f32) (ix2 a l) : EReal)) = mat x a :=
    funext fun l => neg_neg _
  show -(extractStridedSlice S1024x1 ![0, 49]
      (Host.topK S1024x50 1 (FloatOps.cmpfTotal CmpDirection.gt) (Host.negf x) hs).1 hs' (ix2 a 0) : EReal) = _
  rw [extractStridedSlice_apply _ _ _ _ (ix2 a (49 : Fin 50)) (by intro d; fin_cases d <;> simp [ix2]),
    topK_value (by decide) (Host.negf x) hs a 49, e]
  exact neg_neg _

/-- The precondition's second and third parts: each query is separated. -/
theorem part2_apply (v27 : FVec Ideal S1024x128 .f32) (v30 : FVec Ideal S1024x1 .f32) (v36 v38 v39 : FVec Ideal S1024x50000 .f32)
    (a : Fin 1024) (h30 : v30 (ix2 a 0) = ∑ i, mat v27 a i * mat v27 a i)
    (h : ∀ (c : Fin 392) (r : Fin 4), fn_part2 v27 v30 v36 v38 v39 (ix3 a c r) = 1#1) :
    Separated (mat v27 a) (mat (subf v36 (mulf v39 v38)) a) := by
  unfold fn_part2 at h
  dsimp only at h
  have p := fun c r => part3_apply _ _ _ _ a c r (h c r)
  have hr := reach_apply (subf v36 (mulf v39 v38)) Facts.sliceFits_S1024x50000_S1024x50 Facts.slices_S1024x50_S1024x1_0_49 a
  have hbig := (p 0 0).1.1.1
  have hfar := (p 0 0).1.1.2
  rw [hr] at hfar
  refine ⟨?_, hfar.trans_eq ?_, fun c => ?_, fun c r hr' => ?_⟩
  · have : BitVec.ofBool (decide (max (reach (mat (subf v36 (mulf v39 v38)) a)) (-reach (mat (subf v36 (mulf v39 v38)) a)) <
        Ideal.ofBits .f32 0x7F61B1E6#32)) = 1#1 := by
      rw [← hr]; exact hbig
    exact (bit_one _).mp this
  · unfold farAway
    rw [← h30]
    clear hbig hfar hr p h
    pointwise
  · exact hr.symm.trans_lt (p c 0).1.2
  · have q := (p c ⟨r, hr'⟩).2
    rw [hr] at q
    simpa only [Nat.add_comm] using q

theorem Separated.congr {q q' : Fin 128 → EReal} {d d' : Fin 50000 → EReal} (h : Separated q' d') (hq : ∀ j, q' j = q j)
    (hd : ∀ k, d' k = d k) : Separated q d := by
  rw [show q = q' from (funext hq).symm, show d = d' from (funext hd).symm]; exact h

/-- The precondition from the layer normalisation's end on. -/
theorem part1_apply (x5 x6 : FVec Ideal S128 .f32) (x7 : FVec Ideal S50000x128 .f32) (v16 : FVec Ideal S1024x128 .f32)
    (v18 : FVec Ideal S1024x1 .f32) (a : Fin 1024) (q : Fin 128 → EReal)
    (hq : ∀ j, q j = Ideal.div (v16 (ix2 a j)) (Ideal.sqrt (v18 (ix2 a 0))) * vec x5 j + vec x6 j)
    (h : ∀ (c : Fin 392) (r : Fin 4), fn_part1 x5 x6 x7 v16 v18 (ix3 a c r) = 1#1) :
    Separated q (fun k => Cert.Proof.dist q (mat x7 k)) := by
  unfold fn_part1 at h
  dsimp only at h
  generalize hv : addf (mulf (Host.divf v16 (broadcastInDim S1024x128 ![0, 1] Facts.bcast_S1024x1_S1024x128_0_1 (Host.sqrt v18)))
    (broadcastInDim S1024x128 ![0, 1] Facts.bcast_S1x128_S1024x128_0_1 (broadcastInDim S1x128 ![1] Facts.bcast_S128_S1x128_1 x5)))
    (broadcastInDim S1024x128 ![0, 1] Facts.bcast_S1x128_S1024x128_0_1 (broadcastInDim S1x128 ![1] Facts.bcast_S128_S1x128_1 x6)) = v27 at h
  have e : ∀ j, mat v27 a j = q j := fun j => by
    rw [hq, ← hv]
    pointwise
  refine Separated.congr (part2_apply _ _ _ _ _ a ?_ h) e fun k => ?_
  · pointwise
  · rw [← funext e]
    pointwise
    rfl

/-- Under the precondition every query is separated. -/
theorem separated (x0 : FVec Ideal S1024x544 .f32) (x1 : FVec Ideal S544x256 .f32) (x2 : FVec Ideal S256 .f32)
    (x3 : FVec Ideal S256x128 .f32) (x4 x5 x6 : FVec Ideal S128 .f32) (x7 : FVec Ideal S50000x128 .f32) (x8 : FVec Ideal S50000 .f32)
    (x9 : FVec Ideal S544x256 .f32) (x10 : FVec Ideal S256 .f32) (x11 : FVec Ideal S256x128 .f32) (x12 : FVec Ideal S128 .f32)
    (x13 : FVec Ideal S128x1 .f32) (x14 : FVec Ideal S1 .f32)
    (h : fn x0 x1 x2 x3 x4 x5 x6 x7 x8 x9 x10 x11 x12 x13 x14 = fun _ => 1#1) (a : Fin 1024) :
    Separated (queryOf x0 x1 x2 x3 x4 x5 x6 a) (fun k => Cert.Proof.dist (queryOf x0 x1 x2 x3 x4 x5 x6 a) (mat x7 k)) := by
  have h' := fun c r => congrFun h (ix3 a c r)
  clear h
  unfold fn at h'
  dsimp only at h'
  generalize hv : addf (Host.dotGeneral dot_S1024x256_S256x128_S1024x128_1_0_0_1_n_n none (maximumf (addf
    (Host.dotGeneral dot_S1024x544_S544x256_S1024x256_1_0_0_1_n_n none x0 x1)
    (broadcastInDim S1024x256 ![0, 1] Facts.bcast_S1x256_S1024x256_0_1 (broadcastInDim S1x256 ![1] Facts.bcast_S256_S1x256_1 x2)))
    (broadcastInDim S1024x256 ![] Facts.bcast_S_S1024x256 (constant S_ FTy.f32 0x00000000#32))) x3)
    (broadcastInDim S1024x128 ![0, 1] Facts.bcast_S1x128_S1024x128_0_1 (broadcastInDim S1x128 ![1] Facts.bcast_S128_S1x128_1 x4)) = v9 at h'
  have e : mat v9 a = dense (pos (dense (mat x0 a) (mat x1) (vec x2))) (mat x3) (vec x4) := funext fun j => by
    rw [← hv]
    pointwise
    rfl
  refine part1_apply _ _ _ _ _ a _ (fun j => ?_) h'
  unfold queryOf query
  rw [← e]
  clear h' hv e
  have e0 : (FloatOps.sitofp FTy.f32 0#32 : Ideal .f32) = (0 : EReal) := by
    show (((0#32).toInt : ℝ) : EReal) = 0
    simp
  have e1 : (0 : EReal) < Ideal.ofBits .f32 0x43000000#32 := by
    rw [lit_count]; exact_mod_cast (by norm_num : (0 : ℝ) < 128)
  unfold fn_var fn_where
  dsimp only
  pointwise
  rw [e0, sub_zero, if_pos e1]
  rfl

end Cert.Pre_separated
-- ==== Proof.Value.lean ====
/- Hand-written, untrusted: the kernel and the reference, from memories that agree on the arguments, end with equal results
   where the precondition `separated` holds. -/
module

public import proofs.«01_k».proof.Defs
public import proofs.«01_k».proof.Proof.Facts
public import proofs.«01_k».proof.Proof.KernelRun
public import proofs.«01_k».proof.Proof.Boundary
public import proofs.«01_k».proof.Proof.RefRead
public import proofs.«01_k».proof.Proof.PreRead
public import Idealize.ShloMosaic.Lib.Claim

@[expose] public section

noncomputable section

namespace Cert.Proof

open Idealize.ShloMosaic Idealize.SL.Sem Cert.Proof.Select

/-- The reference leaves its arguments alone under the precondition too. -/
theorem frame_reference_separated :
    Cert.quiescent_ReferenceIdeal_pre_separated (hReferenceIdeal := Cert.ReferenceIdeal.Gen.facts) (hPre_separated := preFacts) :=
  fun m g _ => frame_reference m g True.intro

/-- The distance of key `k` in row `a`, as the reference computes it. -/
theorem far_eq (V : Valuation Cert.ReferenceIdeal.τ Cert.ReferenceIdeal.sig (Elt Ideal)) (a : Fin 1024) :
    Cert.ReferenceIdeal.Value.far V a = fun k => Cert.Proof.dist
      (queryOf (V (Proc.devRef .tc Cert.ReferenceIdeal.main_arg0)) (V (Proc.devRef .tc Cert.ReferenceIdeal.main_arg1))
        (V (Proc.devRef .tc Cert.ReferenceIdeal.main_arg2)) (V (Proc.devRef .tc Cert.ReferenceIdeal.main_arg3))
        (V (Proc.devRef .tc Cert.ReferenceIdeal.main_arg4)) (V (Proc.devRef .tc Cert.ReferenceIdeal.main_arg5))
        (V (Proc.devRef .tc Cert.ReferenceIdeal.main_arg6)) a)
      (mat (V (Proc.devRef .tc Cert.ReferenceIdeal.main_arg7)) k) := by
  funext k
  unfold Cert.ReferenceIdeal.Value.far
  congr 1
  funext j
  exact Cert.ReferenceIdeal.Value.v27_apply V a j

/-- **The kernel computes what the reference computes**, over the extended reals, where every query is separated. -/
theorem algebraic : Cert.algebraic_KernelIdeal_ReferenceIdeal_pre_separated (hKernelIdeal := Cert.KernelIdeal.Gen.facts)
    (hReferenceIdeal := Cert.ReferenceIdeal.Gen.facts) (hPre_separated := preFacts) := by
  intro m g m' g' hpre hagree
  refine ⟨fun c => Cert.KernelIdeal.Gen.W6 m g c (Proc.devRef .tc Cert.KernelIdeal.main_v19), Cert.KernelIdeal.Gen.run_result m g, ?_⟩
  refine (θ_run _ _ _).mono (fun r h c => ⟨?_, (h c).2⟩) (Cert.ReferenceIdeal.Value.run m' g')
  refine (h c).1.trans ((Cert.ReferenceIdeal.Value.val2_main_v76 (StableHlo.launchContents m' c)).symm.trans ?_)
  obtain ⟨h0, h1, h2, h3, h4, h5, h6, h7, h8, h9, h10, h11, h12, h13, h14⟩ := hagree c
  funext i
  obtain ⟨a, rfl⟩ : ∃ a : Fin 1024, i = ix1 a := ⟨i 0, eq_ix1 i⟩
  refine (Cert.ReferenceIdeal.Value.v76_apply _ a).trans ?_
  refine Eq.trans ?_ (Cert.KernelIdeal.Gen.result_launch m g c (fun b => Cert.Pre_separated.separated _ _ _ _ _ _ _ _ _ _ _ _ _ _ _ (hpre c) b) a).symm
  rw [far_eq]
  dsimp only [StableHlo.launchContents]
  rw [h0, h1, h2, h3, h4, h5, h6, h7, h8, h9, h10, h11, h12, h13, h14]

end Cert.Proof

end
-- ==== Proof.lean ====
/- Hand-written, untrusted: the proof of `Cert.Claim`. The frames come from the generated frame modules and `Proof/Facts.lean`,
   the value claim from `Proof/Value.lean`. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Facts
public import proofs.«01_k».proof.Proof.Value
public import Idealize.ShloMosaic.Adequacy
public import Idealize.ShloMosaic.Init

@[expose] public section

noncomputable section

namespace Cert.Proof

/-- Every claim: the three programs' frames, with and without the precondition, and the equality of the results. -/
theorem claim : Cert.Claim :=
  ⟨Cert.Kernel.Gen.facts, Cert.KernelIdeal.Gen.facts, Cert.ReferenceIdeal.Gen.facts, preFacts,
    fun m ρ _ => Cert.Kernel.Gen.frame m ρ, fun m ρ _ => Cert.KernelIdeal.Gen.frame m ρ, fun m ρ _ => Cert.KernelIdeal.Gen.frame m ρ,
    frame_reference, frame_reference_separated, True.intro, algebraic⟩

end Cert.Proof

end
